-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 512]⟩ ⟨2, ![8192, 4096]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x512 : Shape := ⟨2, ![8192, 512]⟩
abbrev S2x512x8192 : Shape := ⟨3, ![2, 512, 8192]⟩
abbrev S2x512x512 : Shape := ⟨3, ![2, 512, 512]⟩
abbrev S2 : Shape := ⟨1, ![2]⟩
abbrev S_ : Shape := ⟨0, ![]⟩
abbrev S1 : Shape := ⟨1, ![1]⟩
abbrev S1x512x8192 : Shape := ⟨3, ![1, 512, 8192]⟩
abbrev S512x8192 : Shape := ⟨2, ![512, 8192]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S8192x512, .f32⟩
  | .local _ .vmem, ⟨0, _⟩ => ⟨S1024x8192, .bf16⟩
  | .local _ .vmem, ⟨1, _⟩ => ⟨S8192x512, .bf16⟩
  | .local _ .vmem, ⟨2, _⟩ => ⟨S2x512x8192, .bf16⟩
  | .local _ .vmem, ⟨3, _⟩ => ⟨S2x512x8192, .bf16⟩
  | .local _ .vmem, ⟨4, _⟩ => ⟨S2x512x512, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 4 12 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 3

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_22 : BitVec 32 := 1#32
  let v22 : BitVec 32 := Scalar.muli v5 c1_i32_22
  let v23 : BitVec 32 := Scalar.addi c0_i32_23 v22
  v23.toNat
def k0_off1 (d0 : Dev nD) (c0_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v52 : BitVec 32 := Scalar.muli v2 c1024_i32
  let v53 : BitVec 32 := Scalar.addi v52 c0_i32_37
  let c0_i32_40 : BitVec 32 := 0#32
  ![v53.toNat, 0]
def k0_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_82 : BitVec 32 := 1#32
  let v101 : BitVec 32 := Scalar.muli v7 c1_i32_82
  let v102 : BitVec 32 := Scalar.addi c0_i32_83 v101
  v102.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_92 : BitVec 32 := 1#32
  let v111 : BitVec 32 := Scalar.muli v5 c1_i32_92
  let v112 : BitVec 32 := Scalar.addi c0_i32_93 v111
  v112.toNat
def k0_off2 (d0 : Dev nD) (c0_i32_100 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_98 : BitVec 32 := 8#32
  let v121 : BitVec 32 := Scalar.addi v2 c8_i32_98
  let c1_i32_99 : BitVec 32 := 1#32
  let v122 : BitVec 32 := Scalar.subi v121 c1_i32_99
  let v123 : BitVec 32 := Scalar.subi v122 c0_i32_100
  let c8_i32_101 : BitVec 32 := 8#32
  let v124 : BitVec 32 := Scalar.remsi v123 c8_i32_101
  let c1024_i32_123 : BitVec 32 := 1024#32
  let v154 : BitVec 32 := Scalar.muli v124 c1024_i32_123
  let c0_i32_124 : BitVec 32 := 0#32
  let v155 : BitVec 32 := Scalar.addi v154 c0_i32_124
  let c0_i32_127 : BitVec 32 := 0#32
  ![v155.toNat, 0]
def k0_off3 (d0 : Dev nD) (c0_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v125 : BitVec 32 := Scalar.addi v2 c1_i32_102
  let v126 : BitVec 32 := Scalar.addi v125 c0_i32_103
  let c8_i32_104 : BitVec 32 := 8#32
  let v127 : BitVec 32 := Scalar.remsi v126 c8_i32_104
  let c1024_i32_148 : BitVec 32 := 1024#32
  let v187 : BitVec 32 := Scalar.muli v127 c1024_i32_148
  let c512_i32_149 : BitVec 32 := 512#32
  let v188 : BitVec 32 := Scalar.addi v187 c512_i32_149
  let c0_i32_152 : BitVec 32 := 0#32
  ![v188.toNat, 0]
def k0_dev7 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_190 : BitVec 32 := 1#32
  let v216 : BitVec 32 := Scalar.muli v5 c1_i32_190
  let v217 : BitVec 32 := Scalar.addi c0_i32_191 v216
  v217.toNat
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_193 : BitVec 32 := 1#32
  let v218 : BitVec 32 := Scalar.muli v7 c1_i32_193
  let v219 : BitVec 32 := Scalar.addi c0_i32_194 v218
  v219.toNat
def k0_dev9 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_223 : BitVec 32 := 1#32
  let v236 : BitVec 32 := Scalar.muli v7 c1_i32_223
  let v237 : BitVec 32 := Scalar.addi c0_i32_224 v236
  v237.toNat
def k0_dev10 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_233 : BitVec 32 := 1#32
  let v246 : BitVec 32 := Scalar.muli v5 c1_i32_233
  let v247 : BitVec 32 := Scalar.addi c0_i32_234 v246
  v247.toNat
def k0_dev11 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_315 : BitVec 32 := 1#32
  let v341 : BitVec 32 := Scalar.muli v5 c1_i32_315
  let v342 : BitVec 32 := Scalar.addi c0_i32_316 v341
  v342.toNat
def k0_dev12 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_318 : BitVec 32 := 1#32
  let v343 : BitVec 32 := Scalar.muli v7 c1_i32_318
  let v344 : BitVec 32 := Scalar.addi c0_i32_319 v343
  v344.toNat
def k0_dev13 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_348 : BitVec 32 := 1#32
  let v361 : BitVec 32 := Scalar.muli v7 c1_i32_348
  let v362 : BitVec 32 := Scalar.addi c0_i32_349 v361
  v362.toNat
def k0_dev14 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_358 : BitVec 32 := 1#32
  let v371 : BitVec 32 := Scalar.muli v5 c1_i32_358
  let v372 : BitVec 32 := Scalar.addi c0_i32_359 v371
  v372.toNat
def k0_dev15 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_440 : BitVec 32 := 1#32
  let v466 : BitVec 32 := Scalar.muli v5 c1_i32_440
  let v467 : BitVec 32 := Scalar.addi c0_i32_441 v466
  v467.toNat
def k0_dev16 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_443 : BitVec 32 := 1#32
  let v468 : BitVec 32 := Scalar.muli v7 c1_i32_443
  let v469 : BitVec 32 := Scalar.addi c0_i32_444 v468
  v469.toNat
def k0_dev17 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_473 : BitVec 32 := 1#32
  let v486 : BitVec 32 := Scalar.muli v7 c1_i32_473
  let v487 : BitVec 32 := Scalar.addi c0_i32_474 v486
  v487.toNat
def k0_dev18 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_483 : BitVec 32 := 1#32
  let v496 : BitVec 32 := Scalar.muli v5 c1_i32_483
  let v497 : BitVec 32 := Scalar.addi c0_i32_484 v496
  v497.toNat
def k0_dev19 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_564 : BitVec 32 := 1#32
  let v591 : BitVec 32 := Scalar.muli v5 c1_i32_564
  let v592 : BitVec 32 := Scalar.addi c0_i32_565 v591
  v592.toNat
def k0_dev20 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_567 : BitVec 32 := 1#32
  let v593 : BitVec 32 := Scalar.muli v7 c1_i32_567
  let v594 : BitVec 32 := Scalar.addi c0_i32_568 v593
  v594.toNat
def k0_dev21 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_597 : BitVec 32 := 1#32
  let v611 : BitVec 32 := Scalar.muli v7 c1_i32_597
  let v612 : BitVec 32 := Scalar.addi c0_i32_598 v611
  v612.toNat
def k0_dev22 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_607 : BitVec 32 := 1#32
  let v621 : BitVec 32 := Scalar.muli v5 c1_i32_607
  let v622 : BitVec 32 := Scalar.addi c0_i32_608 v621
  v622.toNat
def k0_dev23 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_688 : BitVec 32 := 1#32
  let v716 : BitVec 32 := Scalar.muli v5 c1_i32_688
  let v717 : BitVec 32 := Scalar.addi c0_i32_689 v716
  v717.toNat
def k0_dev24 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_691 : BitVec 32 := 1#32
  let v718 : BitVec 32 := Scalar.muli v7 c1_i32_691
  let v719 : BitVec 32 := Scalar.addi c0_i32_692 v718
  v719.toNat
def k0_dev25 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_721 : BitVec 32 := 1#32
  let v736 : BitVec 32 := Scalar.muli v7 c1_i32_721
  let v737 : BitVec 32 := Scalar.addi c0_i32_722 v736
  v737.toNat
def k0_dev26 (d0 : Dev nD) : Nat :=
  let c0_i32_732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_731 : BitVec 32 := 1#32
  let v746 : BitVec 32 := Scalar.muli v5 c1_i32_731
  let v747 : BitVec 32 := Scalar.addi c0_i32_732 v746
  v747.toNat
def k0_dev27 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_898 : BitVec 32 := 1#32
  let v940 : BitVec 32 := Scalar.muli v5 c1_i32_898
  let v941 : BitVec 32 := Scalar.addi c0_i32_899 v940
  v941.toNat
def k0_dev28 (d0 : Dev nD) : Nat :=
  let c0_i32_902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_901 : BitVec 32 := 1#32
  let v942 : BitVec 32 := Scalar.muli v7 c1_i32_901
  let v943 : BitVec 32 := Scalar.addi c0_i32_902 v942
  v943.toNat
abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdealRing.Base.lean ====
/-
The ring of eight devices, the kernel's memrefs and semaphores by direction and slot, what they hold, and the
schedule of signals and copies between the devices.

Both directions run the same protocol: direction `false` sends the upper half of each device's rows of `x` clockwise
(to `nxt`), direction `true` the lower half counter-clockwise (to `prv`). Copy `s` (`0 ≤ s < 7`) lands in slot `s % 2`
of the receiver.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.Release
public import Idealize.ShloMosaic.Lib.MemrefSat

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The next device round the ring. -/
def nxt (c : Dev nD) : Dev nD := ⟨(c.val + 1) % 8, Nat.mod_lt _ (by decide)⟩
set_option backward.proofsInPublic true in
/-- The previous device round the ring. -/
def prv (c : Dev nD) : Dev nD := ⟨(c.val + 7) % 8, Nat.mod_lt _ (by decide)⟩

/-- Back from the next device is the device itself. -/
theorem prv_nxt (c : Dev nD) : prv (nxt c) = c := by revert c; decide
/-- On from the previous device is the device itself. -/
theorem nxt_prv (c : Dev nD) : nxt (prv c) = c := by revert c; decide

/-- Where a device's copies of direction `d` come from, and where it sends its own. -/
def up (d : Bool) (c : Dev nD) : Dev nD := if d then nxt c else prv c
/-- Where direction `d` sends to. -/
def dn (d : Bool) (c : Dev nD) : Dev nD := if d then prv c else nxt c

/-- The device that sends to the one downstream is this one. -/
theorem up_dn (d : Bool) (c : Dev nD) : up d (dn d c) = c := by cases d; exacts [prv_nxt c, nxt_prv c]
/-- The device downstream of the one that sends here is this one. -/
theorem dn_up (d : Bool) (c : Dev nD) : dn d (up d c) = c := by cases d; exacts [nxt_prv c, prv_nxt c]

/-- The device whose rows device `c` holds `n` steps into direction `d`. -/
def org (d : Bool) (c : Dev nD) : ℕ → Dev nD
  | 0 => c
  | n + 1 => org d (up d c) n

/-- What is downstream one hop later is what is here now. -/
theorem org_dn (d : Bool) (c : Dev nD) (n : ℕ) : org d (dn d c) (n + 1) = org d c n := by
  show org d (up d (dn d c)) n = _
  rw [up_dn]

/-- Slot parity of copy `s`. -/
def pb (s : ℕ) : Bool := decide (s % 2 = 1)

/-- Successive steps use the two slots in turn. -/
theorem pb_succ (s : ℕ) : pb (s + 1) = !pb s := by
  unfold pb
  rcases Nat.mod_two_eq_zero_or_one s with h | h
  · rw [show (s + 1) % 2 = 1 by omega, h]; rfl
  · rw [show (s + 1) % 2 = 0 by omega, h]; rfl

/-- Two steps later the slot is the same. -/
theorem pb_add_two (s : ℕ) : pb (s + 2) = pb s := by rw [pb_succ, pb_succ, Bool.not_not]

/-! ## The memrefs -/

/-- A receive slot lies in its buffer. -/
theorem inb_slot (b : Bool) : ∀ a, (![b.toNat, 0, 0] : Fin 3 → Nat) a + S1x512x8192.size a ≤ S2x512x8192.size a := by cases b <;> decide
/-- A stage lies in its buffer. -/
theorem inb_stage (b : Bool) : ∀ a, (![b.toNat, 0, 0] : Fin 3 → Nat) a + S1x512x512.size a ≤ S2x512x512.size a := by cases b <;> decide
/-- A half of the rows lies in the block. -/
theorem inb_half (d : Bool) : ∀ a, (![512 * d.toNat, 0] : Fin 2 → Nat) a + S512x8192.size a ≤ S1024x8192.size a := by cases d <;> decide
/-- A semaphore of a pair lies in the pair. -/
theorem inb_sem (b : Bool) : ∀ a, (![b.toNat] : Fin 1 → Nat) a + S1.size a ≤ S2.size a := by cases b <;> decide

abbrev xM : Memref sig .tc .vmem S1024x8192 .bf16 := Memref.whole cc0_stg0_0
abbrev wM : Memref sig .tc .vmem S8192x512 .bf16 := Memref.whole cc0_stg1_0
abbrev resM : Memref sig .tc .hbm S8192x512 .f32 := Memref.whole main_v1
abbrev stgM : Memref sig .tc .vmem S2x512x512 .f32 := Memref.whole cc0_scratch2

/-- The two receive buffers, by direction. -/
abbrev commM : Bool → Memref sig .tc .vmem S2x512x8192 .bf16
  | false => Memref.whole cc0_scratch0
  | true => Memref.whole cc0_scratch1

abbrev slotRect (b : Bool) : Rect S2x512x8192 := Rect.unit (s := S2x512x8192) ![b.toNat, 0, 0] S1x512x8192.size (inb_slot b)
abbrev stageRect (b : Bool) : Rect S2x512x512 := Rect.unit (s := S2x512x512) ![b.toNat, 0, 0] S1x512x512.size (inb_stage b)
abbrev halfRect (d : Bool) : Rect S1024x8192 := Rect.unit (s := S1024x8192) ![512 * d.toNat, 0] S512x8192.size (inb_half d)
abbrev wRect : Rect S8192x512 := Rect.unit (s := S8192x512) ![0, 0] S8192x512.size inb_S8192x512_S8192x512_0_0
abbrev outRect (off : Fin 2 → Nat) (h : ∀ a, off a + S512x512.size a ≤ S8192x512.size a) : Rect S8192x512 :=
  Rect.unit (s := S8192x512) off S512x512.size h

/-- Slot `b` of direction `d`'s receive buffer; direction `d`'s staging slot for results; half `d` of a device's rows. -/
abbrev slotM (d b : Bool) : Memref sig .tc .vmem S512x8192 .bf16 :=
  ((commM d).slice (slotRect b) (fun _ => rfl)).squeeze S512x8192 squeezes_S1x512x8192_S512x8192
abbrev stM (d : Bool) : Memref sig .tc .vmem S512x512 .f32 :=
  (stgM.slice (stageRect d) (fun _ => rfl)).squeeze S512x512 squeezes_S1x512x512_S512x512
abbrev halfM (d : Bool) : Memref sig .tc .vmem S512x8192 .bf16 := xM.slice (halfRect d) (fun _ => rfl)
abbrev outM (off : Fin 2 → Nat) (h : ∀ a, off a + S512x512.size a ≤ S8192x512.size a) : Memref sig .tc .hbm S512x512 .f32 :=
  resM.slice (outRect off h) (fun _ => rfl)

/-- The block of the result computed from half `d` of device `o`'s rows. -/
abbrev blkOff (o : Dev nD) (d : Bool) : Fin 2 → Nat := ![1024 * o.val + 512 * d.toNat, 0]
/-- A block lies in the result. -/
theorem inb_blk (o : Dev nD) (d : Bool) : ∀ a, blkOff o d a + S512x512.size a ≤ S8192x512.size a := by
  revert o d; decide
abbrev blkM (o : Dev nD) (d : Bool) : Memref sig .tc .hbm S512x512 .f32 := outM (blkOff o d) (inb_blk o d)

/-! ## The semaphores -/

abbrev dslot (a : DmaSems sig S2) (b : Bool) : DmaSems sig S_ :=
  (a.slice (Rect.unit (s := S2) ![b.toNat] S1.size (inb_sem b))).squeeze S_ squeezes_S1_S_

abbrev barS : Sem sig := (SemArray.scalar (sig.barrier 0 rfl) : Sems sig S_).sem
abbrev exitS : Sem sig := (cc0_scratch9 : Sems sig S_).sem
abbrev creditS : Bool → Sem sig
  | false => (cc0_scratch7 : Sems sig S_).sem
  | true => (cc0_scratch8 : Sems sig S_).sem
abbrev sendS : Bool → Bool → DmaSem sig
  | false, b => (dslot cc0_scratch3 b).sem
  | true, b => (dslot cc0_scratch5 b).sem
abbrev recvS : Bool → Bool → DmaSem sig
  | false, b => (dslot cc0_scratch4 b).sem
  | true, b => (dslot cc0_scratch6 b).sem
abbrev outS (d : Bool) : DmaSem sig := (dslot cc0_scratch10 d).sem

/-- The semaphores a device waits on: the runtime's barrier, the exit barrier, the credits, and the receive, send and
    result copies' completions. -/
inductive CK
  | bar | exit | credit (d : Bool) | recv (d b : Bool) | send (d b : Bool) | out (d : Bool)
  deriving DecidableEq

/-- The semaphore of a kind. -/
def ksem : CK → SemLoc sig
  | .bar => .reg barS
  | .exit => .reg exitS
  | .credit d => .reg (creditS d)
  | .recv d b => .dma (recvS d b)
  | .send d b => .dma (sendS d b)
  | .out d => .dma (outS d)

/-- The kinds of semaphore, listed. -/
def kinds : List CK :=
  [.bar, .exit, .credit false, .credit true, .recv false false, .recv false true, .recv true false, .recv true true,
    .send false false, .send false true, .send true false, .send true true, .out false, .out true]

/-- The list has every kind. -/
theorem mem_kinds (k : CK) : k ∈ kinds := by
  rcases k with _ | _ | d | ⟨d, b⟩ | ⟨d, b⟩ | d
  · decide
  · decide
  · cases d <;> decide
  · cases d <;> cases b <;> decide
  · cases d <;> cases b <;> decide
  · cases d <;> decide

instance : Fintype CK := ⟨kinds.toFinset, fun k => List.mem_toFinset.mpr (mem_kinds k)⟩

/-- The kind of a semaphore, if it is one of the kernel's. -/
def kindOf (sm : SemLoc sig) : Option CK := kinds.find? fun k => ksem k = sm

/-- A kind is read back from its semaphore. -/
theorem kindOf_ksem : ∀ k : CK, kindOf (ksem k) = some k := by decide

/-- Different kinds are different semaphores. -/
theorem ksem_injective : Function.Injective ksem := fun k k' h => by
  have := kindOf_ksem k; rw [h, kindOf_ksem] at this; exact (Option.some.inj this).symm

abbrev cell (c : Dev nD) (k : CK) : GSem nD τ sig := ((c : Thread nD τ), ksem k)

/-- Different devices or kinds are different cells. -/
theorem cell_injective : Function.Injective (fun ck : Dev nD × CK => cell ck.1 ck.2) := by
  rintro ⟨c, k⟩ ⟨c', k'⟩ h
  have h1 : c = c' := congrArg (fun g : GSem nD τ sig => g.1.1) h
  have h2 : k = k' := ksem_injective (congrArg Prod.snd h)
  rw [h1, h2]

/-! ## The resource algebra -/

/-- A receive slot: its owner, direction and slot number. -/
abbrev Key : Type := Dev nD × Bool × Bool
abbrev UB : Type := URounds (GSem nD τ sig) ℕ × Release.USlots Key
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := (Emb.inl : Emb (URounds (GSem nD τ sig) ℕ) UB).trans embR
abbrev ES : Emb (Release.USlots Key) (MT nD τ sig ℕ (Elt F) ℕ UU ℕ) := (Emb.inr : Emb (Release.USlots Key) UB).trans embR

/-! ## Contents -/

/-- The devices' blocks of `x` and `w`. -/
structure Inp (F : FTy → Type) where
  x : Dev nD → (cc0_stg0_0 : Ref sig .tc).ty.Contents (Elt F)
  w : Dev nD → (cc0_stg1_0 : Ref sig .tc).ty.Contents (Elt F)

variable (I : Inp F)

/-- Half `d` of device `c`'s rows. -/
def xhalf (c : Dev nD) (d : Bool) : FVec F S512x8192 .bf16 := (halfM d).view.read (Elt F) (I.x c)

/-- The activation, elementwise. -/
def gel (y : FVec F S512x512 .f32) : FVec F S512x512 .f32 :=
  mulf (mulf (broadcast S512x512 (Scalar.ofBits .f32 0x3F000000#32)) y)
    (addf (broadcast S512x512 (Scalar.ofBits .f32 0x3F800000#32))
      (tanh (mulf (broadcast S512x512 (Scalar.ofBits .f32 0x3F4C422A#32))
        (addf y (mulf (mulf (mulf (broadcast S512x512 (Scalar.ofBits .f32 0x3D372713#32)) y) y) y)))))

/-- One tile of the result. -/
def tile (x : FVec F S512x8192 .bf16) (w : FVec F S8192x512 .bf16) : FVec F S512x512 .f32 :=
  gel (matmul dot_S512x8192_S8192x512_S512x512_1_0_0_1_n_n none x (shapeCast S8192x512 w shapeCasts_S8192x512_S8192x512) (constant S512x512 .f32 0x00000000#32))

/-- Device `c`'s tile from half `d` of device `o`'s rows. -/
def outv (c o : Dev nD) (d : Bool) : FVec F S512x512 .f32 := tile (xhalf I o d) (I.w c)

/-! ## Sizes of the copies -/

/-- What a copy between devices pays. -/
def NC : ℕ := (slotM false false).view.dmaCredit
/-- What a copy of a tile to the result pays. -/
def NO : ℕ := (blkM 0 false).view.dmaCredit

/-- A copy into any slot pays the same. -/
theorem credit_slot (d b : Bool) : (slotM d b).view.dmaCredit = NC := by cases d <;> cases b <;> rfl
/-- A copy of either half pays the same. -/
theorem credit_half (d : Bool) : (halfM d).view.dmaCredit = NC := rfl
/-- A copy into any block of the result pays the same. -/
theorem credit_out (off h) : (outM off h).view.dmaCredit = NO := rfl
/-- A copy between devices pays something. -/
theorem NC_pos : 0 < NC := View.dmaCredit_pos _ (by decide)
/-- A copy of a tile pays something. -/
theorem NO_pos : 0 < NO := View.dmaCredit_pos _ (by decide)

/-! ## The schedule -/

/-- A buffer part owned whole at some contents. -/
abbrev slotAt (c : Dev nD) {s : Shape} {e : EltTy} {sp : Space} (m : Memref sig .tc sp s e) : sProp 𝕄 :=
  Release.slot (m.view.loc (c : Thread nD τ)) m.view.set

/-- Device `n` has freed slot `b` of direction `d` for its `r`-th use and awaits that use. -/
def ready (n : Dev nD) (d b : Bool) (r : ℕ) : sProp 𝕄 :=
  iprop(Release.released ES (n, d, b) (r + 1) ∗ reached ER (cell n (.recv d b)) r)

/-- Both slots, once copies `0 … h - 1` have been used up. -/
def readyTwo (n : Dev nD) (d : Bool) (h : ℕ) : sProp 𝕄 :=
  iprop(ready n d (pb h) (h / 2) ∗ ready n d (!pb h) ((h + 1) / 2))

/-- What copy `s` of direction `d` is read from, on the sending device. -/
def srcPay (c : Dev nD) (d : Bool) (s : ℕ) : sProp 𝕄 :=
  if s = 0 then owns (c : Thread nD τ) (halfM d) fullShare.left (xhalf I (org d c s) d)
  else owns (c : Thread nD τ) (slotM d (!pb s)) fullShare.left (xhalf I (org d c s) d)

/-- The copy that lands in slot `b` for the `r`-th time. -/
def copyNo (b : Bool) (r : ℕ) : ℕ := 2 * r + b.toNat

/-- The slot and round of copy `s` name copy `s`. -/
theorem copyNo_pb (s : ℕ) : copyNo (pb s) (s / 2) = s := by
  unfold copyNo pb
  rcases Nat.mod_two_eq_zero_or_one s with h | h <;> rw [h] <;> simp <;> omega

/-- The payments of a round, by kind. -/
def kDuties : CK → ℕ → Finset ℕ
  | .bar, r => if r = 0 then {0, 1} else ∅
  | .exit, r => if r = 0 then {0, 1} else ∅
  | .credit _, r => if r = 0 then Finset.range 5 else ∅
  | .recv _ b, r => if copyNo b r < 7 then {0} else ∅
  | .send _ b, r => if copyNo b r < 7 then {0} else ∅
  | .out _, r => if r < 8 then {0} else ∅

/-- How much each payment of a kind is. -/
def kAmount : CK → ℕ
  | .bar => 1 | .exit => 1 | .credit _ => 1 | .recv _ _ => NC | .send _ _ => NC | .out _ => NO

/-- What a payment hands over. -/
def kPay (c : Dev nD) : CK → ℕ → ℕ → sProp 𝕄
  | .bar, _, d => readyTwo (dn (decide (d = 1)) c) (decide (d = 1)) 0
  | .exit, _, _ => iprop(emp)
  | .credit d, _, j => readyTwo (dn d c) d (j + 1)
  | .recv d b, r, _ => owns (c : Thread nD τ) (slotM d b) fullShare (xhalf I (org d c (copyNo b r + 1)) d)
  | .send d b, r, _ => srcPay I c d (copyNo b r)
  | .out d, r, _ => iprop(owns (c : Thread nD τ) (blkM (org d c r) d) fullShare (outv I c (org d c r) d) ∗ slotAt c (stM d))

/-- No payment is of nothing. -/
theorem kAmount_pos (k : CK) : 0 < kAmount k := by
  cases k <;> first | exact Nat.one_pos | exact NC_pos | exact NO_pos

/-- The schedule of payments on every cell. -/
def Rd : Rounds.Schedule (GSem nD τ sig) ℕ 𝕄 where
  duties g r := if g.1.2 = .tc then (match kindOf g.2 with | some k => kDuties k r | none => ∅) else ∅
  unitless _ := False
  amount g _ _ := match kindOf g.2 with | some k => kAmount k | none => 1
  payload g r d := match kindOf g.2 with | some k => kPay I g.1.1 k r d | none => iprop(emp)
  amount_pos g _ _ _ := by
    split
    · exact kAmount_pos _
    · exact Nat.one_pos

instance ready_persistent (n : Dev nD) (d b : Bool) (r : ℕ) : BI.Persistent (ready (F := F) n d b r) := by unfold ready; infer_instance
instance ready_storable (n : Dev nD) (d b : Bool) (r : ℕ) : BI.Storable (upEmb : UEmb _ 𝕄) (ready (F := F) n d b r) := by unfold ready; infer_instance
instance readyTwo_persistent (n : Dev nD) (d : Bool) (h : ℕ) : BI.Persistent (readyTwo (F := F) n d h) := by unfold readyTwo; infer_instance
instance readyTwo_storable (n : Dev nD) (d : Bool) (h : ℕ) : BI.Storable (upEmb : UEmb _ 𝕄) (readyTwo (F := F) n d h) := by unfold readyTwo; infer_instance
instance srcPay_storable (c : Dev nD) (d : Bool) (s : ℕ) : BI.Storable (upEmb : UEmb _ 𝕄) (srcPay I c d s) := by
  unfold srcPay; split <;> infer_instance

instance kPay_storable (c : Dev nD) (k : CK) (r d : ℕ) : BI.Storable (upEmb : UEmb _ 𝕄) (kPay I c k r d) := by
  cases k <;> dsimp only [kPay] <;> infer_instance

instance Rd_payload_storable (g : GSem nD τ sig) (r d : ℕ) : BI.Storable (upEmb : UEmb _ 𝕄) ((Rd I).payload g r d) := by
  show BI.Storable upEmb (match kindOf g.2 with | some k => kPay I g.1.1 k r d | none => iprop(emp))
  split <;> infer_instance

section Tables
variable (c : Dev nD) (k : CK)

/-- The schedule's payments on a cell of the kernel. -/
theorem Rd_duties (r : ℕ) : (Rd I).duties (cell c k) r = kDuties k r := by
  show (if (Proc.tc : Proc τ) = .tc then (match kindOf (ksem k) with | some k => kDuties k r | none => ∅) else ∅) = _
  rw [if_pos rfl, kindOf_ksem]
/-- Their amounts. -/
theorem Rd_amount (r d : ℕ) : (Rd I).amount (cell c k) r d = kAmount k := by
  show (match kindOf (ksem k) with | some k => kAmount k | none => 1) = _
  rw [kindOf_ksem]
/-- What they hand over. -/
theorem Rd_payload (r d : ℕ) : (Rd I).payload (cell c k) r d = kPay I c k r d := by
  show (match kindOf (ksem k) with | some k => kPay I c k r d | none => iprop(emp)) = _
  rw [kindOf_ksem]
/-- What a round on a cell of the kernel adds up to. -/
theorem Rd_expect (r : ℕ) : (Rd I).expect (cell c k) r = (kDuties k r).card * kAmount k := by
  unfold Schedule.expect Schedule.amountOf
  rw [Rd_duties, Finset.sum_congr rfl fun d _ => Rd_amount I c k r d, Finset.sum_const, smul_eq_mul]

/-- A copy that is made is its round's one payment. -/
theorem duties_copy {d b : Bool} {r : ℕ} (h : copyNo b r < 7) :
    kDuties (.recv d b) r = {0} ∧ kDuties (.send d b) r = {0} := ⟨if_pos h, if_pos h⟩
/-- Each tile's copy is its round's one payment. -/
theorem duties_out {d : Bool} {r : ℕ} (h : r < 8) : kDuties (.out d) r = {0} := if_pos h

end Tables

/-- Readiness after `h` uses gives readiness for every copy up to `h + 1`. -/
theorem ready_mono (n : Dev nD) (d b : Bool) {r r' : ℕ} (h : r' ≤ r) : ready (F := F) n d b r ⊢ ready n d b r' := by
  unfold ready
  iintro ⟨H1, H2⟩
  isplitl [H1]
  · iapply (Release.released_mono ES (show r' + 1 ≤ r + 1 by omega)) $$ H1
  · iapply (reached_mono ER h) $$ H2

/-- Of the first two uses that are free, either one. -/
theorem readyTwo_elim (n : Dev nD) (d : Bool) {h s : ℕ} (hs : s ≤ h + 1) : readyTwo (F := F) n d h ⊢ ready n d (pb s) (s / 2) := by
  unfold readyTwo
  by_cases hp : pb s = pb h
  · rw [hp]
    have : s / 2 ≤ h / 2 := by
      have hmod : s % 2 = h % 2 := by
        unfold pb at hp
        have := decide_eq_decide.mp hp
        omega
      omega
    iintro ⟨H, -⟩
    iapply (ready_mono n d (pb h) this) $$ H
  · have : pb s = !pb h := by revert hp; cases pb s <;> cases pb h <;> decide
    rw [this]
    iintro ⟨-, H⟩
    iapply (ready_mono n d (!pb h) (show s / 2 ≤ (h + 1) / 2 by omega)) $$ H

end Cert.KernelIdealRing

end
-- ==== Proof.KernelIdealRing.Prog.lean ====
/-
The kernel's body as a chain of steps generic in the direction and the step's number, and that the kernel's body is
that chain.
-/
module

public import proofs.«01_k».proof.Proof.KernelIdealRing.Base

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev TP (F : FTy → Type) : Type 1 := Prog (TpuEff nD τ sig (Elt F) Λ₀ .tc) PUnit

/-- Whom the signals and copies of a device name, and the block of the result each step writes. -/
structure Names where
  bar : Bool → Dev nD
  snd : Bool → ℕ → Dev nD
  crd : Bool → ℕ → Dev nD
  ext : Bool → Dev nD
  blk : Bool → ℕ → Memref sig .tc .hbm S512x512 .f32

/-- What copy `s` reads: a half of the device's own rows, then the slot the previous copy landed in. -/
abbrev srcM (d : Bool) : ℕ → Memref sig .tc .vmem S512x8192 .bf16
  | 0 => halfM d
  | s + 1 => slotM d (pb s)

/-- A half of the rows is made of whole words. -/
theorem half_words (d : Bool) : (halfM d).view.WordExact := by
  cases d
  · exact (Memref.isWhole_whole cc0_stg0_0).wordExact_slice rfl _ wordsbf16_S1024x8192_S512x8192_0_0
  · exact (Memref.isWhole_whole cc0_stg0_0).wordExact_slice rfl _ wordsbf16_S1024x8192_S512x8192_512_0

/-- So is a receive slot, -/
theorem slot_words (d b : Bool) : (slotM d b).view.WordExact := by
  cases d <;> cases b
  · exact ((Memref.isWhole_whole cc0_scratch0).wordExact_slice rfl _ wordsbf16_S2x512x8192_S1x512x8192_0_0_0).reshape _ _
  · exact ((Memref.isWhole_whole cc0_scratch0).wordExact_slice rfl _ wordsbf16_S2x512x8192_S1x512x8192_1_0_0).reshape _ _
  · exact ((Memref.isWhole_whole cc0_scratch1).wordExact_slice rfl _ wordsbf16_S2x512x8192_S1x512x8192_0_0_0).reshape _ _
  · exact ((Memref.isWhole_whole cc0_scratch1).wordExact_slice rfl _ wordsbf16_S2x512x8192_S1x512x8192_1_0_0).reshape _ _

/-- a copy's source, -/
theorem src_words (d : Bool) (s : ℕ) : (srcM d s).view.WordExact := by
  cases s
  · exact half_words d
  · exact slot_words d _

/-- a stage, -/
theorem stage_words (d : Bool) : (stM d).view.WordExact := (View.wordExact_bits rfl).reshape _ _
/-- and a block of the result. -/
theorem blk_words (b : Memref sig .tc .hbm S512x512 .f32) : b.view.WordExact := View.wordExact_bits rfl

/-- A receive slot is no subcore's scratch. -/
theorem slot_hbm (d b : Bool) : (slotM d b).view.ref.isScScratch = false := by cases d <;> rfl

/-! ## The steps -/

variable (P : Names)

/-- The start of copy `s`. -/
def sendOp (d : Bool) (s : ℕ) : TP F :=
  Prog.lift (.enqueueDma (srcM d s) (.remote (Dev.tc (P.snd d s)) (slotM d (pb s)) (.dma (sendS d (pb s))) (slot_hbm d (pb s))) (.dma (recvS d (pb s)))
    (src_words d s) (slot_words d (pb s)) ⟨⟨rfl, by cases s <;> exact Or.inl rfl⟩, trivial⟩)

/-- The wait for the arrival of copy `s`. -/
def recvOp (d : Bool) (s : ℕ) : TP F :=
  Prog.lift (.waitDma2 (recvS d (pb s)) (srcM d s) (slotM d (pb s)) (src_words d s) (slot_words d (pb s)))

/-- The wait for the source of copy `s`. -/
def sentOp (d : Bool) (s : ℕ) : TP F :=
  Prog.lift (.waitDma2 (sendS d (pb s)) (slotM d (pb s)) (srcM d s) (slot_words d (pb s)) (src_words d s))

/-- The wait for a credit. -/
def creditWaitOp (d : Bool) : TP F := semWaitWord (creditS d) 1#32
/-- The signal of a credit. -/
def creditOp (d : Bool) (j : ℕ) : TP F := semSignalWord (P.crd d j) (creditS d) 1#32

/-- The result tile of the rows `x`, stored in the staging slot and sent to its block. -/
def putOps (d : Bool) (s : ℕ) (v : FVec F S1x512x512 .f32) : TP F := do
  let _ : Vec F S1x512x512 .f32 ← Prog.lift (.load stgM (stageRect d).toLoadRect (View.loadsAt_vmem h_S1x512x512))
  Prog.lift (.store stgM (stageRect d) v Finset.univ (View.stores_vmem_bits_univ h_S1x512x512 rfl) (.inl rfl))
  Prog.lift (.enqueueDma (stM d) (.here (P.blk d s)) (.dma (outS d)) (stage_words d) (blk_words _) ⟨Or.inl rfl, trivial⟩)

/-- The wait for the copy of tile `s`. -/
def outWaitOp (d : Bool) (s : ℕ) : TP F :=
  Prog.lift (.waitDma2 (outS d) (stM d) (P.blk d s) (stage_words d) (blk_words _))

/-- Step `0`: the device's own rows. -/
def ownOps (d : Bool) : TP F := do
  let x : Vec F S512x8192 .bf16 ← Prog.lift (.load xM (halfRect d).toLoadRect (View.loadsAt_vmem h_S512x8192))
  let w : Vec F S8192x512 .bf16 ← Prog.lift (.load wM wRect.toLoadRect (View.loadsAt_vmem h_S8192x512))
  putOps P d 0 (shapeCast S1x512x512 (tile (shapeCast S512x8192 x shapeCasts_S512x8192_S512x8192) w) shapeCasts_S512x512_S1x512x512)

/-- Step `s + 1`: the rows copy `s` brought. -/
def stepOps (d : Bool) (s : ℕ) : TP F := do
  let x : Vec F S1x512x8192 .bf16 ← Prog.lift (.load (commM d) (slotRect (pb s)).toLoadRect (View.loadsAt_vmem h_S1x512x8192))
  let w : Vec F S8192x512 .bf16 ← Prog.lift (.load wM wRect.toLoadRect (View.loadsAt_vmem h_S8192x512))
  outWaitOp P d s
  putOps P d (s + 1) (shapeCast S1x512x512 (tile (shapeCast S512x8192 x shapeCasts_S1x512x8192_S512x8192) w) shapeCasts_S512x512_S1x512x512)

/-! ## Each step in both directions -/

/-- The barrier at the entry. -/
def enterB : TP F := do
  semSignalWord (P.bar false) barS 1#32
  semSignalWord (P.bar true) barS 1#32
  semWaitWord barS 2#32

/-- Both directions' arrivals. -/
def recvB (s : ℕ) : TP F := do recvOp false s; recvOp true s
/-- Both directions' copies started. -/
def sendB (s : ℕ) : TP F := do sendOp P false s; sendOp P true s
/-- Both directions' sources waited for. -/
def sentB (s : ℕ) : TP F := do sentOp false s; sentOp true s
/-- Both directions' credits waited for. -/
def creditWaitB : TP F := do creditWaitOp false; creditWaitOp true
/-- Both directions' credits signalled. -/
def creditB (j : ℕ) : TP F := do creditOp P false j; creditOp P true j
/-- The tiles of the device's own rows. -/
def ownB : TP F := do ownOps P false; ownOps P true
/-- The tiles of what arrived at step `s`. -/
def stepB (s : ℕ) : TP F := do stepOps P false s; stepOps P true s
/-- The waits for both directions' tiles. -/
def outWaitB (s : ℕ) : TP F := do outWaitOp P false s; outWaitOp P true s

/-- The barrier at the exit. -/
def exitB : TP F := do
  semSignalWord (P.ext false) exitS 1#32
  semSignalWord (P.ext true) exitS 1#32
  semWaitWord exitS 2#32

/-- An iteration after the first, up to its credit. -/
def mainB (h : ℕ) (rest : TP F) : TP F := do
  recvB h
  creditWaitB
  sendB P (h + 1)
  stepB P h
  sentB (h + 1)
  rest

/-- An iteration between the first and the last two. -/
def midB (h : ℕ) : TP F := mainB P h (creditB P h)

/-- The first iteration, without credits to wait for. -/
def firstB : TP F := do
  recvB 0
  sendB P 1
  stepB P 0
  sentB 0
  sentB 1
  creditB P 0

/-- The iteration that signals no credit. -/
def lateB : TP F := mainB P 5 (.ret ⟨⟩)

/-- The last iteration, which sends nothing on. -/
def lastB : TP F := do
  recvB 6
  stepB P 6

/-- The whole body. -/
def bodyB : TP F := do
  enterB P
  sendB P 0
  ownB P
  firstB P
  midB P 1
  midB P 2
  midB P 3
  midB P 4
  lateB P
  lastB P
  outWaitB P 7
  exitB P

/-! ## The names as the kernel computes them, and as the ring has them -/

/-- The devices and offsets as the printed body names them. -/
def litNames (c : Dev nD) : Names where
  bar := fun | false => ⟨k0_dev1 c, k0_dev1_lt c⟩ | true => ⟨k0_dev2 c, k0_dev2_lt c⟩
  snd := fun
    | false, 0 => ⟨k0_dev3 c, k0_dev3_lt c⟩ | true, 0 => ⟨k0_dev4 c, k0_dev4_lt c⟩
    | false, 1 => ⟨k0_dev5 c, k0_dev5_lt c⟩ | true, 1 => ⟨k0_dev6 c, k0_dev6_lt c⟩
    | false, 2 => ⟨k0_dev9 c, k0_dev9_lt c⟩ | true, 2 => ⟨k0_dev10 c, k0_dev10_lt c⟩
    | false, 3 => ⟨k0_dev13 c, k0_dev13_lt c⟩ | true, 3 => ⟨k0_dev14 c, k0_dev14_lt c⟩
    | false, 4 => ⟨k0_dev17 c, k0_dev17_lt c⟩ | true, 4 => ⟨k0_dev18 c, k0_dev18_lt c⟩
    | false, 5 => ⟨k0_dev21 c, k0_dev21_lt c⟩ | true, 5 => ⟨k0_dev22 c, k0_dev22_lt c⟩
    | false, 6 => ⟨k0_dev25 c, k0_dev25_lt c⟩ | true, 6 => ⟨k0_dev26 c, k0_dev26_lt c⟩
    | d, _ => dn d c
  crd := fun
    | false, 0 => ⟨k0_dev7 c, k0_dev7_lt c⟩ | true, 0 => ⟨k0_dev8 c, k0_dev8_lt c⟩
    | false, 1 => ⟨k0_dev11 c, k0_dev11_lt c⟩ | true, 1 => ⟨k0_dev12 c, k0_dev12_lt c⟩
    | false, 2 => ⟨k0_dev15 c, k0_dev15_lt c⟩ | true, 2 => ⟨k0_dev16 c, k0_dev16_lt c⟩
    | false, 3 => ⟨k0_dev19 c, k0_dev19_lt c⟩ | true, 3 => ⟨k0_dev20 c, k0_dev20_lt c⟩
    | false, 4 => ⟨k0_dev23 c, k0_dev23_lt c⟩ | true, 4 => ⟨k0_dev24 c, k0_dev24_lt c⟩
    | d, _ => up d c
  ext := fun | false => ⟨k0_dev27 c, k0_dev27_lt c⟩ | true => ⟨k0_dev28 c, k0_dev28_lt c⟩
  blk := fun
    | false, 0 => outM (k0_off1 c 0#32) (k0_off1_inb c 0) | true, 0 => outM (k0_off1 c 512#32) (k0_off1_inb c 1)
    | false, 1 => outM (k0_off2 c 0#32) (k0_off2_inb c 0) | true, 1 => outM (k0_off3 c 0#32) (k0_off3_inb c 0)
    | false, 2 => outM (k0_off2 c 1#32) (k0_off2_inb c 1) | true, 2 => outM (k0_off3 c 1#32) (k0_off3_inb c 1)
    | false, 3 => outM (k0_off2 c 2#32) (k0_off2_inb c 2) | true, 3 => outM (k0_off3 c 2#32) (k0_off3_inb c 2)
    | false, 4 => outM (k0_off2 c 3#32) (k0_off2_inb c 3) | true, 4 => outM (k0_off3 c 3#32) (k0_off3_inb c 3)
    | false, 5 => outM (k0_off2 c 4#32) (k0_off2_inb c 4) | true, 5 => outM (k0_off3 c 4#32) (k0_off3_inb c 4)
    | false, 6 => outM (k0_off2 c 5#32) (k0_off2_inb c 5) | true, 6 => outM (k0_off3 c 5#32) (k0_off3_inb c 5)
    | false, 7 => outM (k0_off2 c 6#32) (k0_off2_inb c 6) | true, 7 => outM (k0_off3 c 6#32) (k0_off3_inb c 6)
    | d, s => blkM (org d c s) d

/-- The devices and offsets by their place round the ring. -/
def ringNames (c : Dev nD) : Names where
  bar d := up d c
  snd d _ := dn d c
  crd d _ := up d c
  ext d := up d c
  blk d s := blkM (org d c s) d

/-- Equal offsets are equal blocks. -/
theorem outM_congr {off off' : Fin 2 → Nat} (e : off = off') (h h') : outM off h = outM off' h' := by subst e; rfl

/-- Counter-clockwise copies come from the next device. -/
theorem up_true (c : Dev nD) : up true c = nxt c := rfl
/-- Clockwise copies come from the previous device. -/
theorem up_false (c : Dev nD) : up false c = prv c := rfl
/-- Counter-clockwise copies go to the previous device. -/
theorem dn_true (c : Dev nD) : dn true c = prv c := rfl
/-- Clockwise copies go to the next device. -/
theorem dn_false (c : Dev nD) : dn false c = nxt c := rfl

/-- Where a direction's step finds its rows. -/
theorem org_val : ∀ (c : Dev nD) (s : Fin 8), (org false c s).val = (c.val + 8 - s.val) % 8 ∧ (org true c s).val = (c.val + s.val) % 8 := by
  decide

/-- The printed names are the ring's. -/
theorem litNames_eq (c : Dev nD) : litNames c = ringNames c := by
  have hb : (litNames c).bar = (ringNames c).bar := by
    funext d; cases d
    · exact Fin.ext (k0_dev1_eq c)
    · exact Fin.ext (k0_dev2_eq c)
  have he : (litNames c).ext = (ringNames c).ext := by
    funext d; cases d
    · exact Fin.ext (k0_dev27_eq c)
    · exact Fin.ext (k0_dev28_eq c)
  have hs : (litNames c).snd = (ringNames c).snd := by
    funext d s
    rcases s with _ | _ | _ | _ | _ | _ | _ | s <;> cases d
    exacts [Fin.ext (k0_dev3_eq c), Fin.ext (k0_dev4_eq c), Fin.ext (k0_dev5_eq c), Fin.ext (k0_dev6_eq c), Fin.ext (k0_dev9_eq c), Fin.ext (k0_dev10_eq c),
      Fin.ext (k0_dev13_eq c), Fin.ext (k0_dev14_eq c), Fin.ext (k0_dev17_eq c), Fin.ext (k0_dev18_eq c), Fin.ext (k0_dev21_eq c), Fin.ext (k0_dev22_eq c),
      Fin.ext (k0_dev25_eq c), Fin.ext (k0_dev26_eq c), rfl, rfl]
  have hc : (litNames c).crd = (ringNames c).crd := by
    funext d s
    rcases s with _ | _ | _ | _ | _ | s <;> cases d
    exacts [Fin.ext (k0_dev7_eq c), Fin.ext (k0_dev8_eq c), Fin.ext (k0_dev11_eq c), Fin.ext (k0_dev12_eq c), Fin.ext (k0_dev15_eq c), Fin.ext (k0_dev16_eq c),
      Fin.ext (k0_dev19_eq c), Fin.ext (k0_dev20_eq c), Fin.ext (k0_dev23_eq c), Fin.ext (k0_dev24_eq c), rfl, rfl]
  have hlt : c.val < 8 := c.isLt
  have hf (s : Fin 8) {off : Fin 2 → Nat} (h) {v : ℕ} (e : off = ![v, 0]) (hv : v = 1024 * ((c.val + 8 - s.val) % 8)) : outM off h = blkM (org false c s) false :=
    outM_congr (by rw [e, hv]; show _ = ![1024 * (org false c s).val + 512 * 0, 0]; rw [(org_val c s).1]; rfl) _ _
  have ht (s : Fin 8) {off : Fin 2 → Nat} (h) {v : ℕ} (e : off = ![v, 0]) (hv : v = 1024 * ((c.val + s.val) % 8) + 512) : outM off h = blkM (org true c s) true :=
    outM_congr (by rw [e, hv]; show _ = ![1024 * (org true c s).val + 512 * 1, 0]; rw [(org_val c s).2]) _ _
  have f2 (r : Fin 7) (h) : outM (k0_off2 c (BitVec.ofNat 32 r.val)) h = blkM (org false c (r.val + 1)) false :=
    hf ⟨r.val + 1, by omega⟩ h (k0_off2_eq c r) (by simp only; have := r.isLt; congr 2; omega)
  have f3 (r : Fin 7) (h) : outM (k0_off3 c (BitVec.ofNat 32 r.val)) h = blkM (org true c (r.val + 1)) true :=
    ht ⟨r.val + 1, by omega⟩ h (k0_off3_eq c r) (by simp only; rw [Nat.add_assoc])
  have hk : (litNames c).blk = (ringNames c).blk := by
    funext d s
    rcases s with _ | _ | _ | _ | _ | _ | _ | _ | s <;> cases d
    exacts [hf 0 _ (k0_off1_eq c 0) (by simp; omega), ht 0 _ (k0_off1_eq c 1) (by simp; omega), f2 0 _, f3 0 _, f2 1 _, f3 1 _, f2 2 _, f3 2 _,
      f2 3 _, f3 3 _, f2 4 _, f3 4 _, f2 5 _, f3 5 _, f2 6 _, f3 6 _, rfl, rfl]
  show Names.mk _ _ _ _ _ = Names.mk _ _ _ _ _
  exact congr (congr (congr (congr (congrArg Names.mk hb) hs) hc) he) hk

set_option maxRecDepth 65536 in
/-- The printed body is the chain of steps at the printed names. -/
theorem body_eq : cc0_body (F := F) xM (Memref.isWhole_whole _) wM (Memref.isWhole_whole _) resM (Memref.isWhole_whole _)
    (Memref.whole cc0_scratch0) (Memref.isWhole_whole _) (Memref.whole cc0_scratch1) (Memref.isWhole_whole _) stgM (Memref.isWhole_whole _)
    cc0_scratch3 cc0_scratch4 cc0_scratch5 cc0_scratch6 cc0_scratch7 cc0_scratch8 cc0_scratch9 cc0_scratch10
    = (Prog.lift .deviceId).bind (fun c => bodyB (litNames c)) := by
  rw [cc0_body_eq_skeleton]
  rfl

end Cert.KernelIdealRing

end
-- ==== Proof.KernelIdealRing.Steps.lean ====
/-
The rules of the kernel's steps: each signal, wait and copy between devices, generic in the direction and the step's number.
-/
module

public import proofs.«01_k».proof.Proof.KernelIdealRing.Prog

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No loop needs a variant. -/
def 𝒱₀ : Variants := Variants.none

/-! ## What a device owes, in the order it pays -/

/-- A payment to another device's cell: a signal or a copy. -/
inductive Ent
  | bar (d : Bool) | rcv (d : Bool) (s : ℕ) | crd (d : Bool) (j : ℕ) | ext (d : Bool)

namespace Ent
/-- The semaphore it is paid on. -/
def kind : Ent → CK
  | bar _ => .bar | rcv d s => .recv d (pb s) | crd d _ => .credit d | ext _ => .exit
/-- The device that is paid. -/
def tgt (c : Dev nD) : Ent → Dev nD
  | bar d => up d c | rcv d _ => dn d c | crd d _ => up d c | ext d => up d c
/-- The device that pays. -/
def src (c : Dev nD) : Ent → Dev nD
  | bar d => dn d c | rcv d _ => up d c | crd d _ => dn d c | ext d => dn d c
/-- Its number. -/
def ix : Ent → ℕ
  | bar _ => 0 | rcv _ s => s | crd _ j => j | ext _ => 0
end Ent

/-- The levels that order the waits. -/
def kLev : CK → ℕ → ℕ
  | .bar, _ => 1 | .recv _ _, i => 2 + 2 * i | .credit _, i => 3 + 2 * i | .exit, _ => 100 | _, _ => 0

/-- The level of a payment. -/
def Ent.lev (e : Ent) : ℕ := kLev e.kind e.ix

/-- What a device owes when the list of payments is still to make. -/
def due (c : Dev nD) : List Ent → CellTallies nD τ sig ℕ
  | [] => 0
  | e :: l => due c l + tallyAt (cell (e.tgt c) e.kind) e.ix (kAmount e.kind)

/-- What one hop owes. -/
def hopL (h : ℕ) : List Ent :=
  (if h < 6 then [.rcv false (h + 1), .rcv true (h + 1)] else []) ++ (if h < 5 then [.crd false h, .crd true h] else [])

/-- What the exit owes. -/
def exitL : List Ent := [.ext false, .ext true]

/-- What is left to pay from iteration `h` on. -/
def tailL (h : ℕ) : List Ent := (List.range' h (7 - h)).flatMap hopL ++ exitL

/-- Everything a device pays. -/
def script : List Ent := [.bar false, .bar true, .rcv false 0, .rcv true 0] ++ tailL 0

/-- The numbers that count on a cell. -/
def L (g : GSem nD τ sig) : Finset ℕ := if g.1.2 = .tc then Finset.range 8 else ∅
/-- The level of a wait. -/
def lv (g : GSem nD τ sig) (i : ℕ) : ℕ := match kindOf g.2 with | some k => kLev k i | none => 0

/-- Other threads' cells have none. -/
theorem L_of_ne (g : GSem nD τ sig) (h : g.1.2 ≠ .tc) : L g = ∅ := if_neg h
/-- A device's cells have eight. -/
theorem L_tc (c : Dev nD) (sm : SemLoc sig) : L ((c : Thread nD τ), sm) = Finset.range 8 := if_pos rfl
/-- The level of a wait on a cell of the kernel. -/
theorem lv_cell (c : Dev nD) (k : CK) (i : ℕ) : lv (cell c k) i = kLev k i := by
  show (match kindOf (ksem k) with | some k => kLev k i | none => 0) = _
  rw [kindOf_ksem]

/-- What is owed on a cell is one of the listed payments. -/
theorem due_pos (c : Dev nD) (l : List Ent) {g : GSem nD τ sig} {i : ℕ} (h : 0 < due c l g i) :
    ∃ e ∈ l, g = cell (e.tgt c) e.kind ∧ i = e.ix := by
  induction l with
  | nil => exact absurd h (Nat.lt_irrefl 0)
  | cons e l ih =>
    rcases Pipeline.add_pos_cases h with h | h
    · obtain ⟨e', he', h'⟩ := ih h
      exact ⟨e', List.mem_cons_of_mem _ he', h'⟩
    · exact ⟨e, List.mem_cons_self, Pipeline.tallyAt_pos h⟩

/-- Every entry of `l` is above `b`. -/
def Above (b : ℕ) (l : List Ent) : Prop := ∀ e ∈ l, e.ix < 8 ∧ b < e.lev

instance (b : ℕ) (l : List Ent) : Decidable (Above b l) := by unfold Above; infer_instance

/-- A wait below everything listed is allowed. -/
theorem mayWait_of (c : Dev nD) (sm : SemLoc sig) (i : ℕ) (hi : i < 8) (l : List Ent) (hl : Above (lv ((c : Thread nD τ), sm) i) l) :
    (levAts L lv : sProp 𝕄) ⊢ MayWait (c : Thread nD τ) sm i (due c l) :=
  Pipeline.mayWait_of_levAts (by rw [L_tc]; exact Finset.mem_range.mpr hi) fun g j hg => by
    obtain ⟨e, he, rfl, rfl⟩ := due_pos c l hg
    refine ⟨by rw [L_tc]; exact Finset.mem_range.mpr (hl e he).1, ?_⟩
    rw [lv_cell]; exact (hl e he).2

/-- The same on a cell of the kernel. -/
theorem mayWait_cell (c : Dev nD) (k : CK) (i : ℕ) (hi : i < 8) (l : List Ent) (hl : Above (kLev k i) l) :
    (levAts L lv : sProp 𝕄) ⊢ MayWait (c : Thread nD τ) (ksem k) i (due c l) :=
  mayWait_of c (ksem k) i hi l (by rw [show lv ((c : Thread nD τ), ksem k) i = kLev k i from lv_cell c k i]; exact hl)

/-- The device owes what is on the list. -/
def owing (c : Dev nD) (l : List Ent) : sProp 𝕄 := iprop(∃ W, owes (c : Thread nD τ) (due c l) W)

/-! ## The shared facts -/

variable (I : Inp F) (K : Dev nD × CK → ℕ) (κs : Key → ℕ)

/-- The slot a key names. -/
def slotSt (k : Key) : sProp 𝕄 := slotAt k.1 (slotM k.2.1 k.2.2)

/-- What every device knows throughout. -/
def recs : sProp 𝕄 :=
  iprop((bigSep Finset.univ fun ck : Dev nD × CK => cellInv ER (Rd I) (K ck) (cell ck.1 ck.2))
    ∗ (bigSep Finset.univ fun ck : Dev nD × CK => reached ER (cell ck.1 ck.2) 0)
    ∗ (bigSep Finset.univ fun k : Key => Release.slotInv ES (κs k) k (slotSt k))
    ∗ levAts L lv)

instance recs_persistent : BI.Persistent (recs I K κs) := by unfold recs; infer_instance

/-- One member of a family. -/
theorem fam_at {J : Type} [DecidableEq J] {s : Finset J} {i : J} {Φ : J → sProp 𝕄} (h : i ∈ s) : bigSep s Φ ⊢ Φ i := bigSep_elim h

/-- Each cell has its invariant. -/
theorem recs_inv (c : Dev nD) (k : CK) : recs I K κs ⊢ cellInv ER (Rd I) (K (c, k)) (cell c k) := by
  unfold recs; iintro ⟨H, -⟩
  iapply (fam_at (Φ := fun ck : Dev nD × CK => cellInv ER (Rd I) (K ck) (cell ck.1 ck.2)) (Finset.mem_univ (c, k))) $$ H
/-- Each cell has reached its first round. -/
theorem recs_reached (c : Dev nD) (k : CK) : recs I K κs ⊢ reached ER (cell c k) 0 := by
  unfold recs; iintro ⟨-, H, -⟩
  iapply (fam_at (Φ := fun ck : Dev nD × CK => (reached ER (cell ck.1 ck.2) 0 : sProp 𝕄)) (Finset.mem_univ (c, k))) $$ H
/-- Each slot has its invariant. -/
theorem recs_slot (k : Key) : recs I K κs ⊢ Release.slotInv ES (κs k) k (slotSt k) := by
  unfold recs; iintro ⟨-, -, H, -⟩
  iapply (fam_at (Φ := fun k : Key => Release.slotInv ES (κs k) k (slotSt k)) (Finset.mem_univ k)) $$ H
/-- The levels are fixed. -/
theorem recs_lev : recs I K κs ⊢ levAts L lv := by
  unfold recs; iintro ⟨-, -, -, H⟩; iexact H

/-! ## Waits and signals -/

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-- Waiting for a whole round of an own cell. -/
theorem wait_round {Q : PUnit.{1} → sProp 𝕄} {w : TpuEff nD τ sig (Elt F) Λ₀ .tc PUnit} (k : CK) (R ι n : ℕ) (l : List Ent)
    (hw : ∀ Q : PUnit → sProp 𝕄, wpE (defs₀ (F := F)) 𝒱₀ (c : Thread nD τ) none Set.univ w Q = waitSpec (c : Thread nD τ) Set.univ (ksem k) n Q)
    (hn : n = (kDuties k R).card * kAmount k) (hι : ι < 8) (hl : Above (kLev k ι) l) :
    iprop(recs I K κs ∗ atPos ER (cell c k) R ∅ 0 ∗ cred (tallyAt (cell c k) ι n) ∗ owing c l)
      ⊢ iprop(((atPos ER (cell c k) (R + 1) ∅ 0 ∗ reached ER (cell c k) (R + 1) ∗ bigSep (kDuties k R) (kPay I c k R) ∗ owing c l) -∗ Q ⟨⟩)
          -∗ WP c (.op w .ret) Q) := by
  unfold owing
  iintro ⟨#HR, Hat, Hc, ⟨%W, HO⟩⟩ Hk
  iapply (Rounds.wp_wait_rest_token 𝒱₀ ER (Rd I) (c : Thread nD τ) none (κ := K (c, k)) (sm := ksem k) hw (Set.mem_univ _) ι (O := due c l) (W := W) (R := R) (m := 0) (T := ∅)
      (by rw [Nat.zero_add, hn]; exact (Rd_expect I c k R).symm)) $$ [Hat Hc HO]
  · isplitr; · iapply (recs_inv I K κs c k); iexact HR
    isplitl [Hc]; · iexact Hc
    isplitl [HO]; · iexact HO
    isplitr; · iapply (mayWait_cell c k ι hι l hl); iapply (recs_lev I K κs); iexact HR
    iexact Hat
  iintro ⟨HO, Hat, Hr, Hpay⟩
  rw [wp_ret]; imodintro
  iapply Hk
  isplitl [Hat]; · iexact Hat
  isplitl [Hr]; · iexact Hr
  isplitl [Hpay]
  · have e : (bigSep ((Rd I).duties ((c : Thread nD τ), ksem k) R \ ∅) fun d => (Rd I).payload ((c : Thread nD τ), ksem k) R d)
        = bigSep (kDuties k R) (kPay I c k R) := by
      rw [Finset.sdiff_empty, Rd_duties]
      exact bigSep_congr fun d _ => Rd_payload I c k R d
    iapply (Entails.of_eq e); iexact Hpay
  · iexists _; iexact HO

/-- Signalling another device's cell: its duty `δ` of round `0`. -/
theorem signal_one {Q : PUnit.{1} → sProp 𝕄} (e : Ent) (sem : Sem sig) (hs : ksem e.kind = .reg sem) (n : Dev nD) (hn : n = e.tgt c) (δ : ℕ) (hδ : δ ∈ kDuties e.kind 0)
    (ha : kAmount e.kind = 1) (l : List Ent) :
    iprop(recs I K κs ∗ dutyTok ER (cell n e.kind) 0 δ ∗ kPay I n e.kind 0 δ ∗ owing c (e :: l))
      ⊢ iprop((owing c l -∗ Q ⟨⟩) -∗ WP c (semSignalWord n sem 1#32) Q) := by
  subst hn
  have hg : cell (e.tgt c) e.kind = ((e.tgt c : Thread nD τ), .reg sem) := by unfold cell; rw [hs]
  unfold owing
  iintro ⟨#HR, Ht, Hp, ⟨%W, HO⟩⟩ Hk
  unfold semSignalWord
  iapply (Rounds.wp_signal 𝒱₀ ER (Rd I) (c : Thread nD τ) none (dst := (e.tgt c : Thread nD τ)) (sem := sem) (κ := K (e.tgt c, e.kind)) (r := 0)
      (d := δ) (k' := 1) (by rw [← hg, Rd_duties]; exact hδ) (by rw [← hg, Rd_amount]; exact ha) e.ix (O₀ := due c (e :: l)) (due c l)
      (by rw [← hg]; show due c l + tallyAt (cell (e.tgt c) e.kind) e.ix (kAmount e.kind) = _; rw [ha])) $$ [Ht Hp HO]
  · rw [← hg]
    isplitr; · iapply (recs_inv I K κs (e.tgt c) e.kind); iexact HR
    isplitl [HO]; · iexact HO
    isplitl [Ht]; · iexact Ht
    isplitl [Hp]; · rw [Rd_payload]; iexact Hp
    iapply (recs_reached I K κs (e.tgt c) e.kind); iexact HR
  iintro HO
  rw [wp_ret]; imodintro
  iapply Hk
  iexists _; iexact HO

/-! ## The ring copies -/

/-- Where the device stands on a direction's arrivals after `s` of them. -/
def recvPos (d : Bool) (s : ℕ) : sProp 𝕄 :=
  iprop(atPos ER (cell c (.recv d (pb s))) (s / 2) ∅ 0 ∗ atPos ER (cell c (.recv d (!pb s))) ((s + 1) / 2) ∅ 0)

/-- Where the device stands on a direction's sources after `s` of them. -/
def sendPos (d : Bool) (s : ℕ) : sProp 𝕄 :=
  iprop(atPos ER (cell c (.send d (pb s))) (s / 2) ∅ 0 ∗ atPos ER (cell c (.send d (!pb s))) ((s + 1) / 2) ∅ 0)

/-- The other slot of the next step is this step's. -/
theorem not_pb_succ (s : ℕ) : (!pb (s + 1)) = pb s := by rw [pb_succ, Bool.not_not]
/-- Two steps are one more round. -/
theorem half_succ_succ (s : ℕ) : (s + 1 + 1) / 2 = s / 2 + 1 := by omega

/-- One more arrival. -/
theorem recvPos_succ (d : Bool) (s : ℕ) :
    iprop(atPos ER (cell c (.recv d (pb s))) (s / 2 + 1) ∅ 0 ∗ atPos ER (cell c (.recv d (!pb s))) ((s + 1) / 2) ∅ 0) ⊢ recvPos (F := F) c d (s + 1) := by
  unfold recvPos
  rw [not_pb_succ, pb_succ, half_succ_succ]
  exact Laws.sep_comm.1

/-- One more source. -/
theorem sendPos_succ (d : Bool) (s : ℕ) :
    iprop(atPos ER (cell c (.send d (pb s))) (s / 2 + 1) ∅ 0 ∗ atPos ER (cell c (.send d (!pb s))) ((s + 1) / 2) ∅ 0) ⊢ sendPos (F := F) c d (s + 1) := by
  unfold sendPos
  rw [not_pb_succ, pb_succ, half_succ_succ]
  exact Laws.sep_comm.1

/-- The rows copy `s` carries, where it reads them. -/
def srcOwn (d : Bool) (s : ℕ) : sProp 𝕄 := owns (c : Thread nD τ) (srcM d s) fullShare.left (xhalf I (org d c s) d)

/-- What the source's payment hands back is the source. -/
theorem srcPay_eq (d : Bool) (s : ℕ) : srcPay I c d s = srcOwn I c d s := by
  cases s with
  | zero => rfl
  | succ s => unfold srcPay srcOwn; rw [if_neg (Nat.succ_ne_zero s), not_pb_succ]

/-- The rows copy `s` brought. -/
def rowsAt (d : Bool) (s : ℕ) (q : PosShare TreeShare) : sProp 𝕄 :=
  owns (c : Thread nD τ) (slotM d (pb s)) q (xhalf I (org d c (s + 1)) d)

/-- The next copy's source is what arrived. -/
theorem srcOwn_succ (d : Bool) (s : ℕ) : srcOwn I c d (s + 1) = rowsAt I c d s fullShare.left := rfl

/-- Copy `s` has arrived. -/
theorem recv_step {Q : PUnit.{1} → sProp 𝕄} (d : Bool) (s : ℕ) (hs : s < 7) (l : List Ent) (hl : Above (2 + 2 * s) l) :
    iprop(recs I K κs ∗ recvPos c d s ∗ cred (tallyAt (cell c (.recv d (pb s))) s NC) ∗ owing c l)
      ⊢ iprop(((recvPos c d (s + 1) ∗ reached ER (cell c (.recv d (pb s))) (s / 2 + 1) ∗ rowsAt I c d s fullShare ∗ owing c l) -∗ Q ⟨⟩)
          -∗ WP c (recvOp d s) Q) := by
  have hr : copyNo (pb s) (s / 2) < 7 := by rw [copyNo_pb]; exact hs
  have hw := wait_round I K κs c (Q := Q) (w := .waitDma2 (recvS d (pb s)) (srcM d s) (slotM d (pb s)) (src_words d s) (slot_words d (pb s)))
    (.recv d (pb s)) (s / 2) s NC l (by rw [← credit_slot d (pb s)]; exact wpE_waitDma2_eq 𝒱₀ (c : Thread nD τ) none Set.univ)
    (by rw [(duties_copy (d := d) hr).1]; exact (Nat.one_mul _).symm) (by omega) hl
  rw [(duties_copy (d := d) hr).1, bigSep_singleton] at hw
  have hn := recvPos_succ (F := F) c d s
  unfold recvPos at hn ⊢
  iintro ⟨HR, ⟨Ha, Hb⟩, Hc, HO⟩ Hk
  iapply hw $$ [HR Ha Hc HO]
  · isplitl [HR]; · iexact HR
    isplitl [Ha]; · iexact Ha
    isplitl [Hc] <;> iassumption
  iintro ⟨Ha, Hr, Hp, HO⟩
  iapply Hk
  isplitl [Ha Hb]
  · iapply hn; isplitl [Ha] <;> iassumption
  isplitl [Hr]; · iexact Hr
  isplitl [Hp]
  · have e : kPay I c (.recv d (pb s)) (s / 2) 0 = rowsAt I c d s fullShare := by
      show (owns (c : Thread nD τ) (slotM d (pb s)) fullShare (xhalf I (org d c (copyNo (pb s) (s / 2) + 1)) d) : sProp 𝕄) = _
      rw [copyNo_pb]; rfl
    iapply (Entails.of_eq e); iexact Hp
  · iexact HO

/-- Copy `s` has left. -/
theorem sent_step {Q : PUnit.{1} → sProp 𝕄} (d : Bool) (s : ℕ) (hs : s < 7) (l : List Ent) (hl : Above 0 l) :
    iprop(recs I K κs ∗ sendPos c d s ∗ cred (tallyAt (cell c (.send d (pb s))) 0 NC) ∗ owing c l)
      ⊢ iprop(((sendPos c d (s + 1) ∗ srcOwn I c d s ∗ reached ER (cell c (.send d (pb s))) (s / 2 + 1) ∗ owing c l) -∗ Q ⟨⟩)
          -∗ WP c (sentOp d s) Q) := by
  have hr : copyNo (pb s) (s / 2) < 7 := by rw [copyNo_pb]; exact hs
  have ha : (srcM d s).view.dmaCredit = NC := by
    cases s
    · exact credit_half d
    · exact credit_slot d _
  have hw := wait_round I K κs c (Q := Q) (w := .waitDma2 (sendS d (pb s)) (slotM d (pb s)) (srcM d s) (slot_words d (pb s)) (src_words d s))
    (.send d (pb s)) (s / 2) 0 NC l (by rw [← ha]; exact wpE_waitDma2_eq 𝒱₀ (c : Thread nD τ) none Set.univ)
    (by rw [(duties_copy (d := d) hr).2]; exact (Nat.one_mul _).symm) (by omega) hl
  rw [(duties_copy (d := d) hr).2, bigSep_singleton] at hw
  have hn := sendPos_succ (F := F) c d s
  unfold sendPos at hn ⊢
  iintro ⟨HR, ⟨Ha, Hb⟩, Hc, HO⟩ Hk
  iapply hw $$ [HR Ha Hc HO]
  · isplitl [HR]; · iexact HR
    isplitl [Ha]; · iexact Ha
    isplitl [Hc] <;> iassumption
  iintro ⟨Ha, Hr, Hp, HO⟩
  iapply Hk
  isplitl [Ha Hb]
  · iapply hn; isplitl [Ha] <;> iassumption
  isplitl [Hp]
  · have e : kPay I c (.send d (pb s)) (s / 2) 0 = srcOwn I c d s := by
      rw [← srcPay_eq]
      show srcPay I c d (copyNo (pb s) (s / 2)) = _
      rw [copyNo_pb]
    iapply (Entails.of_eq e); iexact Hp
  isplitl [Hr] <;> iassumption

/-- What a device needs to issue copy `s`, besides the rows and the next device's readiness. -/
def copyKit (d : Bool) (s : ℕ) : sProp 𝕄 :=
  iprop(dutyTok ER (cell (dn d c) (.recv d (pb s))) (s / 2) 0 ∗ dutyTok ER (cell c (.send d (pb s))) (s / 2) 0
    ∗ Release.writeTok ES (dn d c, d, pb s) (s / 2 + 1))

/-- What an arrival hands over is the slot with the sent rows. -/
theorem recv_pay_dn (d : Bool) (s : ℕ) :
    kPay I (dn d c) (.recv d (pb s)) (s / 2) 0 = owns (dn d c : Thread nD τ) (slotM d (pb s)) fullShare (xhalf I (org d c s) d) := by
  show (owns (dn d c : Thread nD τ) (slotM d (pb s)) fullShare (xhalf I (org d (dn d c) (copyNo (pb s) (s / 2) + 1)) d) : sProp 𝕄) = _
  rw [copyNo_pb, org_dn]

/-- Copy `s` is issued. -/
theorem send_step {Q : PUnit.{1} → sProp 𝕄} (d : Bool) (s : ℕ) (hs : s < 7) (l : List Ent) :
    iprop(recs I K κs ∗ srcOwn I c d s ∗ ready (dn d c) d (pb s) (s / 2) ∗ copyKit c d s ∗ reached ER (cell c (.send d (pb s))) (s / 2) ∗ owing c (.rcv d s :: l))
      ⊢ iprop(((cred (tallyAt (cell c (.send d (pb s))) 0 NC) ∗ owing c l) -∗ Q ⟨⟩)
          -∗ WP c (sendOp (ringNames c) d s) Q) := by
  have hr : copyNo (pb s) (s / 2) < 7 := by rw [copyNo_pb]; exact hs
  unfold copyKit ready srcOwn owing owns
  iintro ⟨#HR, ⟨%fs, %hfs, Hsrc⟩, ⟨Hrel, Hrch⟩, ⟨Ht, Ht', Hwt⟩, Hrs, ⟨%W, HO⟩⟩ Hk
  imod (Release.slot_take (E := ES) (k := ((dn d c, d, pb s) : Key)) (S := slotSt (F := F) (dn d c, d, pb s)) (ι := κs (dn d c, d, pb s)) (Set.mem_univ _) (s / 2 + 1)) $$ [Hrel Hwt] with Hd
  · isplitr; · iapply (recs_slot I K κs (dn d c, d, pb s)); iexact HR
    isplitl [Hrel] <;> iassumption
  unfold slotSt slotAt Release.slot
  icases Hd with ⟨%fd, Hdst⟩
  iapply (Rounds.wp_send_pointsTo 𝒱₀ ER (Rd I) (c : Thread nD τ) none (c' := (dn d c : Thread nD τ)) (src := srcM d s) (dst := slotM d (pb s))
      (κ₁ := K (c, .send d (pb s))) (κ₂ := K (dn d c, .recv d (pb s))) (r₁ := s / 2) (r₂ := s / 2) (d₁ := 0) (d₂ := 0)
      (sS := .dma (sendS d (pb s))) (sem := .dma (recvS d (pb s))) (fs := fs) (fd := fd) (q := fullShare.left)
      (by rw [show ((c : Thread nD τ), SemLoc.dma (sendS d (pb s))) = cell c (.send d (pb s)) from rfl, Rd_duties, (duties_copy (d := d) hr).2]; exact Finset.mem_singleton_self 0)
      (by rw [show ((dn d c : Thread nD τ), SemLoc.dma (recvS d (pb s))) = cell (dn d c) (.recv d (pb s)) from rfl, Rd_duties, (duties_copy (d := d) hr).1]; exact Finset.mem_singleton_self 0)
      s 0 NC (credit_slot d (pb s)) (Rd_amount I c (.send d (pb s)) _ _) (Rd_amount I (dn d c) (.recv d (pb s)) _ _)
      (O₀ := due c (.rcv d s :: l)) (due c l) rfl (W := W)
      (by
        rw [show ((c : Thread nD τ), SemLoc.dma (sendS d (pb s))) = cell c (.send d (pb s)) from rfl, Rd_payload]
        refine (owns_intro (c : Thread nD τ) (srcM d s) fullShare.left fs).trans (Entails.of_eq ?_)
        rw [hfs]
        show srcOwn I c d s = srcPay I c d (copyNo (pb s) (s / 2))
        rw [copyNo_pb, srcPay_eq])
      (by
        rw [show ((dn d c : Thread nD τ), SemLoc.dma (recvS d (pb s))) = cell (dn d c) (.recv d (pb s)) from rfl, Rd_payload, recv_pay_dn]
        refine (owns_intro (dn d c : Thread nD τ) (slotM d (pb s)) fullShare _).trans (Entails.of_eq ?_)
        rw [View.read_write_univ, hfs])) $$ [Hsrc Hdst HO Ht Ht' Hrch Hrs]
  · isplitr; · iapply (recs_inv I K κs c (.send d (pb s))); iexact HR
    isplitr; · iapply (recs_inv I K κs (dn d c) (.recv d (pb s))); iexact HR
    isplitl [Hsrc]; · iexact Hsrc
    isplitl [Hdst]; · iexact Hdst
    isplitl [HO]; · iexact HO
    isplitl [Ht']; · iexact Ht'
    isplitl [Hrs]; · iexact Hrs
    isplitl [Ht]; · iexact Ht
    iexact Hrch
  iintro ⟨Hc, HO⟩
  rw [wp_ret]; imodintro
  iapply Hk
  isplitl [Hc]; · iexact Hc
  iexists W; iexact HO

/-- One program after another. -/
theorem seq_step {Q : PUnit.{1} → sProp 𝕄} (p q : TP F) : WP c p (fun _ => WP c q Q) ⊢ WP c (p >>= fun _ => q) Q := by
  unfold WP
  rw [wp_bind]

/-! ## The credits -/

/-- `k` credits have been waited for. -/
def crdPos (d : Bool) (k : ℕ) : sProp 𝕄 :=
  if k < 5 then iprop(∃ T : Finset ℕ, ⌜T ⊆ Finset.range 5⌝ ∗ atPos ER (cell c (.credit d)) 0 T k ∗ bigSep T fun j => readyTwo (dn d c) d (j + 1))
  else atPos ER (cell c (.credit d)) 1 ∅ 0

/-- Among `k + 1` distinct credits one is numbered `k` or more, and its readiness serves copy `k + 2`. -/
theorem ready_of_credits (d : Bool) (k : ℕ) (S : Finset ℕ) (hS : k + 1 ≤ S.card) :
    (bigSep S fun j => readyTwo (F := F) (dn d c) d (j + 1)) ⊢ ready (dn d c) d (pb (k + 2)) ((k + 2) / 2) := by
  obtain ⟨j, hj, hjk⟩ : ∃ j ∈ S, k ≤ j := by
    by_contra hno
    have hsub : S ⊆ Finset.range k := fun j hj => Finset.mem_range.mpr (by
      by_contra hk
      exact hno ⟨j, hj, by omega⟩)
    have := Finset.card_le_card hsub
    rw [Finset.card_range] at this
    omega
  iintro H
  iapply (readyTwo_elim (F := F) (dn d c) d (h := j + 1) (s := k + 2) (by omega))
  iapply (fam_at (Φ := fun j => readyTwo (F := F) (dn d c) d (j + 1)) hj) $$ H

/-- The `k`-th credit is waited for: the next device has room for copy `k + 2`. -/
theorem credit_wait {Q : PUnit.{1} → sProp 𝕄} (d : Bool) (k : ℕ) (hk : k < 5) (l : List Ent) (hl : Above (3 + 2 * k) l) :
    iprop(recs I K κs ∗ crdPos c d k ∗ cred (tallyAt (cell c (.credit d)) k 1) ∗ owing c l)
      ⊢ iprop(((crdPos c d (k + 1) ∗ ready (dn d c) d (pb (k + 2)) ((k + 2) / 2) ∗ owing c l) -∗ Q ⟨⟩) -∗ WP c (creditWaitOp d) Q) := by
  unfold crdPos
  rw [if_pos hk]
  unfold owing
  iintro ⟨#HR, ⟨%T, %hT, Hat, #HT⟩, Hc, ⟨%W, HO⟩⟩ Hk
  unfold creditWaitOp semWaitWord
  have hdut : (Rd I).duties ((c : Thread nD τ), .reg (creditS d)) 0 = Finset.range 5 := Rd_duties I c (.credit d) 0
  have hexp : (Rd I).expect ((c : Thread nD τ), .reg (creditS d)) 0 = 5 := (Rd_expect I c (.credit d) 0).trans rfl
  have hpay : ∀ j, (Rd I).payload ((c : Thread nD τ), .reg (creditS d)) 0 j = readyTwo (dn d c) d (j + 1) := fun j => Rd_payload I c (.credit d) 0 j
  have hlast : ∀ S : Finset ℕ, k + 1 ≤ S.card → iprop((bigSep T fun j => readyTwo (F := F) (dn d c) d (j + 1)) ∗ bigSep (S \ T) fun j => (Rd I).payload ((c : Thread nD τ), .reg (creditS d)) 0 j)
      ⊢ bigSep (T ∪ S) fun j => readyTwo (F := F) (dn d c) d (j + 1) := fun S _ => by
    rw [bigSep_congr (fun j _ => hpay j), ← Finset.union_sdiff_self_eq_union, bigSep_union Finset.disjoint_sdiff]
    exact Entails.refl _
  rcases Nat.lt_or_ge (k + 1) 5 with hk5 | hk5
  · rw [if_pos hk5]
    iapply (Rounds.wp_wait 𝒱₀ ER (Rd I) (c : Thread nD τ) none (κ := K (c, .credit d)) (sm := .reg (creditS d))
      (fun _ => wpE_semWait_eq 𝒱₀ (c : Thread nD τ) none Set.univ _) (Set.mem_univ _) (cr := Finsupp.single k 1) (O := due c l) (W := W) {(.reg (creditS d), k)}
      (R := 0) (m := k) (T := T) (Util.total_single _ _) (image_single_subset (SemLoc.reg (creditS d)) k 1)) $$ [Hat Hc HO]
    · isplitr; · iapply (recs_inv I K κs c (.credit d)); iexact HR
      isplitl [Hc]; · iexact Hc
      isplitl [HO]; · iexact HO
      isplitr
      · iapply (mayWait_cell c (.credit d) k (by omega) l hl); iapply (recs_lev I K κs); iexact HR
      iexact Hat
    iintro %S ⟨%hS, HO, Hat, Hp⟩
    obtain ⟨hTS, hSd, hcard⟩ := hS
    rw [wp_ret]; imodintro
    have hSc : k + 1 ≤ S.card := by
      rw [hdut] at hSd hcard
      rw [hexp] at hcard
      have h1 := Finset.card_sdiff_add_card_eq_card hSd
      rw [Finset.card_range] at h1
      change k + 1 + (Finset.range 5 \ S).card ≤ 5 at hcard
      omega
    ihave #Hall := (hlast S hSc) $$ [Hp]
    · isplitr
      · iexact HT
      · iexact Hp
    rw [Finset.union_eq_right.mpr hTS]
    iapply Hk
    isplitl [Hat]
    · iexists S
      isplitr; · ipureintro; rw [hdut] at hSd; exact hSd
      isplitl [Hat]; · iexact Hat
      iexact Hall
    isplitr
    · iapply (ready_of_credits c d k S hSc); iexact Hall
    iexists _; iexact HO
  · obtain rfl : k = 4 := by omega
    rw [if_neg (by decide)]
    iapply (Rounds.wp_wait_rest_token 𝒱₀ ER (Rd I) (c : Thread nD τ) none (κ := K (c, .credit d)) (sm := .reg (creditS d))
      (fun _ => wpE_semWait_eq 𝒱₀ (c : Thread nD τ) none Set.univ _) (Set.mem_univ _) 4 (O := due c l) (W := W)
      (R := 0) (m := 4) (T := T) (hexp.symm)) $$ [Hat Hc HO]
    · isplitr; · iapply (recs_inv I K κs c (.credit d)); iexact HR
      isplitl [Hc]; · iexact Hc
      isplitl [HO]; · iexact HO
      isplitr
      · iapply (mayWait_cell c (.credit d) 4 (by omega) l hl); iapply (recs_lev I K κs); iexact HR
      iexact Hat
    iintro ⟨HO, Hat, -, Hp⟩
    rw [wp_ret]; imodintro
    rw [hdut]
    ihave #Hall := (hlast (Finset.range 5) (by rw [Finset.card_range])) $$ [Hp]
    · isplitr
      · iexact HT
      · iexact Hp
    rw [Finset.union_eq_right.mpr hT]
    iapply Hk
    isplitl [Hat]; · iexact Hat
    isplitr
    · iapply (ready_of_credits c d 4 (Finset.range 5) (by rw [Finset.card_range])); iexact Hall
    iexists _; iexact HO

end Cert.KernelIdealRing

end
-- ==== Proof.KernelIdealRing.Tiles.lean ====
/-
The rules of the tiles: computing one, storing it, and copying it to the result.
-/
module

public import proofs.«01_k».proof.Proof.KernelIdealRing.Steps

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × CK → ℕ) (κs : Key → ℕ) (c : Dev nD)

/-! ## The tiles -/

/-- Where the device stands on a direction's tiles after `s` of them. -/
def outPos (d : Bool) (s : ℕ) : sProp 𝕄 := iprop(atPos ER (cell c (.out d)) s ∅ 0 ∗ reached ER (cell c (.out d)) s)

/-- The tile of step `s`, where it belongs in the result. -/
def doneBlk (d : Bool) (s : ℕ) : sProp 𝕄 :=
  owns (c : Thread nD τ) (blkM (org d c s) d) fullShare (outv I c (org d c s) d)

/-- What a device needs to write the tile of step `s`, besides the staging slot. -/
def outKit (d : Bool) (s : ℕ) : sProp 𝕄 :=
  iprop(dutyTok ER (cell c (.out d)) s 0 ∗ slotAt c (blkM (org d c s) d))

/-- The tile of step `s` is on its way to the result. -/
def outCred (d : Bool) : sProp 𝕄 := cred (tallyAt (cell c (.out d)) 0 NO)

/-- Waiting for the copy of a tile. -/
theorem out_wait {Q : PUnit.{1} → sProp 𝕄} (d : Bool) (s : ℕ) (hs : s < 8) (l : List Ent) (hl : Above 0 l) :
    iprop(recs I K κs ∗ outPos c d s ∗ outCred c d ∗ owing c l)
      ⊢ iprop(((outPos c d (s + 1) ∗ doneBlk I c d s ∗ slotAt c (stM d) ∗ owing c l) -∗ Q ⟨⟩) -∗ WP c (outWaitOp (ringNames c) d s) Q) := by
  have hw := wait_round I K κs c (Q := Q) (w := .waitDma2 (outS d) (stM d) (blkM (org d c s) d) (stage_words d) (blk_words _))
    (.out d) s 0 NO l (by rw [← credit_out (blkOff (org d c s) d) (inb_blk _ _)]; exact wpE_waitDma2_eq 𝒱₀ (c : Thread nD τ) none Set.univ)
    (by rw [duties_out (d := d) hs]; exact (Nat.one_mul _).symm) (by omega) hl
  rw [duties_out (d := d) hs, bigSep_singleton] at hw
  unfold outPos outCred
  iintro ⟨HR, ⟨Ha, -⟩, Hc, HO⟩ Hk
  iapply hw $$ [HR Ha Hc HO]
  · isplitl [HR]; · iexact HR
    isplitl [Ha]; · iexact Ha
    isplitl [Hc] <;> iassumption
  iintro ⟨Ha, Hr, Hp, HO⟩
  iapply Hk
  isplitl [Ha Hr]; · isplitl [Ha] <;> iassumption
  have e : kPay I c (.out d) s 0 = iprop(doneBlk I c d s ∗ slotAt c (stM d)) := rfl
  ihave Hp := (Entails.of_eq e) $$ Hp
  icases Hp with ⟨Hb, Hs⟩
  isplitl [Hb]; · iexact Hb
  isplitl [Hs] <;> iassumption

/-- A slot from its contents. -/
theorem slot_of {sh : Shape} {e : EltTy} {sp : Space} (m : Memref sig .tc sp sh e) (f : Buf (Elt F) (m.view.loc (c : Thread nD τ))) :
    ((m.view.loc (c : Thread nD τ) ↦[m.view.set]{fullShare} f) : sProp 𝕄) ⊢ slotAt c m := by
  unfold slotAt Release.slot
  iintro H
  iexists f
  iexact H

/-- The stage that is stored is the stage that is copied. -/
theorem stage_set (d : Bool) : (stgM.access (stageRect d)).set = (stM d).view.set := by rw [View.set_reshape]

/-- What was stored is what is read. -/
theorem stage_read (d : Bool) (f : (cc0_scratch2 : Ref sig .tc).ty.Contents (Elt F)) (v : FVec F S1x512x512 .f32) :
    (stM d).view.read (Elt F) ((stgM.access (stageRect d)).write (Elt F) f v Finset.univ) = shapeCast S512x512 v shapeCasts_S1x512x512_S512x512 := by
  rw [Memref.read_squeeze_slice stgM (stageRect d) (fun _ => rfl) squeezes_S1x512x512_S512x512 shapeCasts_S1x512x512_S512x512]
  exact congrArg (fun u => shapeCast S512x512 u shapeCasts_S1x512x512_S512x512) (View.read_write_univ (v := stgM.access (stageRect d)) f v)

/-- What a tile's copy hands over: the finished block, and the stage again. -/
theorem out_pay (d : Bool) (s : ℕ) : kPay I c (.out d) s 0 = iprop(doneBlk I c d s ∗ slotAt c (stM d)) := rfl

/-- The copy of the tile of step `s` out of the staging slot is issued. -/
theorem tile_copy {Q : PUnit.{1} → sProp 𝕄} (d : Bool) (s : ℕ) (hs : s < 8) :
    iprop(recs I K κs ∗ owns (c : Thread nD τ) (stM d) fullShare (outv I c (org d c s) d) ∗ outKit c d s ∗ reached ER (cell c (.out d)) s)
      ⊢ iprop((outCred c d -∗ Q ⟨⟩)
        -∗ WP c (Prog.lift (.enqueueDma (stM d) (.here (blkM (org d c s) d)) (.dma (outS d)) (stage_words d) (blk_words _) ⟨Or.inl rfl, trivial⟩)) Q) := by
  have hd : (0 : ℕ) ∈ (Rd I).duties ((c : Thread nD τ), .dma (outS d)) s := by
    rw [show ((c : Thread nD τ), SemLoc.dma (outS d)) = cell c (.out d) from rfl, Rd_duties, duties_out (d := d) hs]; exact Finset.mem_singleton_self 0
  have hpay : ∀ (fs : Buf (Elt F) ((stM d).view.loc (c : Thread nD τ))) (fd : Buf (Elt F) ((blkM (org d c s) d).view.loc (c : Thread nD τ))),
      (stM d).view.read (Elt F) fs = outv I c (org d c s) d →
      iprop(((blkM (org d c s) d).view.loc (c : Thread nD τ) ↦[(blkM (org d c s) d).view.set]{fullShare} ((blkM (org d c s) d).view.write (Elt F) fd ((stM d).view.read (Elt F) fs) Finset.univ))
        ∗ ((stM d).view.loc (c : Thread nD τ) ↦[(stM d).view.set]{fullShare} fs)) ⊢ (Rd I).payload ((c : Thread nD τ), .dma (outS d)) s 0 := fun fs fd hfs => by
    rw [show ((c : Thread nD τ), SemLoc.dma (outS d)) = cell c (.out d) from rfl, Rd_payload, out_pay]
    refine BI.sep_mono ?_ ?_
    · refine (owns_intro (c : Thread nD τ) (blkM (org d c s) d) fullShare _).trans (Entails.of_eq ?_)
      rw [View.read_write_univ, hfs]; rfl
    · exact slot_of c (stM d) fs
  unfold outKit outCred slotAt Release.slot owns
  iintro ⟨#HR, ⟨%fs, %hfs, Hs⟩, ⟨Ht, ⟨%fd, Hd⟩⟩, Hr⟩ Hk
  iapply (Rounds.wp_copy_pointsTo 𝒱₀ ER (Rd I) (c : Thread nD τ) none (src := stM d) (dst := blkM (org d c s) d) (κ := K (c, .out d)) (sem := .dma (outS d))
    (r := s) (d := 0) (fs := fs) (fd := fd) (q := fullShare) hd
    0 NO (credit_out (blkOff (org d c s) d) (inb_blk _ _)) (Rd_amount I c (.out d) _ _) (hpay fs fd hfs)) $$ [Hs Hd Ht Hr]
  · isplitr; · iapply (recs_inv I K κs c (.out d)); iexact HR
    isplitl [Hs]; · iexact Hs
    isplitl [Hd]; · iexact Hd
    isplitl [Ht]; · iexact Ht
    iexact Hr
  iintro Hc
  rw [wp_ret]; imodintro
  iapply Hk; iexact Hc

/-- The tile is stored in the staging slot and its copy to the result issued. -/
theorem put_step {Q : PUnit.{1} → sProp 𝕄} (d : Bool) (s : ℕ) (hs : s < 8) (v : FVec F S1x512x512 .f32)
    (hv : shapeCast S512x512 v shapeCasts_S1x512x512_S512x512 = outv I c (org d c s) d) :
    iprop(recs I K κs ∗ slotAt c (stM d) ∗ outKit c d s ∗ reached ER (cell c (.out d)) s)
      ⊢ iprop((outCred c d -∗ Q ⟨⟩) -∗ WP c (putOps (ringNames c) d s v) Q) := by
  have ht := tile_copy I K κs c (Q := Q) d s hs
  have ho : ∀ fs, (((stgM.access (stageRect d)).loc (c : Thread nD τ) ↦[(stM d).view.set]{fullShare} ((stgM.access (stageRect d)).write (Elt F) fs v Finset.univ)) : sProp 𝕄)
      ⊢ owns (c : Thread nD τ) (stM d) fullShare (outv I c (org d c s) d) := fun fs =>
    (owns_intro (c : Thread nD τ) (stM d) fullShare _).trans (Entails.of_eq (by rw [stage_read, hv]))
  unfold slotAt Release.slot putOps
  iintro ⟨HR, ⟨%fs, Hs⟩, HK, Hr⟩ Hk
  iapply (wp_load_rect 𝒱₀ (c : Thread nD τ) none Set.univ (m := stgM) (r := stageRect d) (S := (stM d).view.set) (f := fs) (stage_set d).subset) $$ Hs
  iintro Hs
  iapply (wp_store 𝒱₀ (c : Thread nD τ) none Set.univ (m := stgM) (r := stageRect d) (Mk := Finset.univ) (S := (stM d).view.set) (f := fs) (stage_set d).subset) $$ Hs
  iintro Hs
  ihave Hs := (ho fs) $$ Hs
  iapply ht $$ [HR Hs HK Hr]
  · isplitl [HR]; · iexact HR
    isplitl [Hs]; · iexact Hs
    isplitl [HK] <;> iassumption
  iexact Hk

/-! ## Computing a tile -/

/-- The device's block of the weights. -/
def wOwn : sProp 𝕄 := (((c : Thread nD τ).loc cc0_stg1_0) ↦[Finset.univ]{fullShare} (I.w c))

/-- Loading a half of the device's own rows. -/
theorem load_half {Q : PUnit.{1} → sProp 𝕄} (d : Bool) (q : PosShare TreeShare) (X : FVec F S512x8192 .bf16)
    (hl : xM.view.LoadsAt (halfRect d).toLoadRect) (k : ((halfRect d).shape.Idx → Elt F .bf16) → TP F) :
    owns (c : Thread nD τ) (halfM d) q X
      ⊢ iprop((owns (c : Thread nD τ) (halfM d) q X -∗ WP c (k X) Q) -∗ WP c (.op (.load xM (halfRect d).toLoadRect hl) k) Q) := by
  unfold owns
  iintro ⟨%f, %hf, H⟩ Hk
  iapply (wp_load_rect 𝒱₀ (c : Thread nD τ) none Set.univ (m := xM) (r := halfRect d) (S := (halfM d).view.set) (f := f) (hl := hl) (k := k) (Finset.Subset.refl _)) $$ H
  iintro H
  rw [show (xM.access (halfRect d)).read (Elt F) f = X from hf]
  iapply Hk
  iexists f
  isplitr; · ipureintro; exact hf
  iexact H

/-- Loading a receive slot. -/
theorem load_slot {Q : PUnit.{1} → sProp 𝕄} (d b : Bool) (q : PosShare TreeShare) (X : FVec F S512x8192 .bf16)
    (hl : (commM d).view.LoadsAt (slotRect b).toLoadRect) (k : ((slotRect b).shape.Idx → Elt F .bf16) → TP F) :
    owns (c : Thread nD τ) (slotM d b) q X
      ⊢ iprop((∀ v : FVec F S1x512x8192 .bf16, (⌜shapeCast S512x8192 v shapeCasts_S1x512x8192_S512x8192 = X⌝ ∗ owns (c : Thread nD τ) (slotM d b) q X) -∗ WP c (k v) Q)
        -∗ WP c (.op (.load (commM d) (slotRect b).toLoadRect hl) k) Q) := by
  unfold owns
  iintro ⟨%f, %hf, H⟩ Hk
  iapply (wp_load_rect 𝒱₀ (c : Thread nD τ) none Set.univ (m := commM d) (r := slotRect b) (S := (slotM d b).view.set) (f := f) (hl := hl) (k := k)
    (by rw [View.set_reshape])) $$ H
  iintro H
  iapply Hk
  isplitr; · ipureintro; exact hf
  iexists f
  isplitr; · ipureintro; exact hf
  iexact H

/-- Loading the device's columns. -/
theorem load_w {Q : PUnit.{1} → sProp 𝕄} (hl : wM.view.LoadsAt wRect.toLoadRect) (k : (wRect.shape.Idx → Elt F .bf16) → TP F) :
    wOwn I c ⊢ iprop((wOwn I c -∗ WP c (k (I.w c)) Q) -∗ WP c (.op (.load wM wRect.toLoadRect hl) k) Q) := by
  unfold wOwn
  iintro H Hk
  iapply (wp_load 𝒱₀ (c : Thread nD τ) none Set.univ (m := wM) (r := wRect.toLoadRect) (hl := hl) (k := k) (Finset.subset_univ _)) $$ H
  iintro H
  rw [show wM.view.readAt (Elt F) wRect.toLoadRect (I.w c) = I.w c from
    Memref.readAt_unit_zero (Elt F) cc0_stg1_0 (by funext a; fin_cases a <;> rfl) inb_S8192x512_S8192x512_0_0 (I.w c)]
  iapply Hk; iexact H

/-- Step `0`: the tile of the device's own rows. -/
theorem own_step {Q : PUnit.{1} → sProp 𝕄} (d : Bool) :
    iprop(recs I K κs ∗ owns (c : Thread nD τ) (halfM d) fullShare.right (xhalf I c d) ∗ wOwn I c ∗ slotAt c (stM d) ∗ outKit c d 0 ∗ outPos c d 0)
      ⊢ iprop(((owns (c : Thread nD τ) (halfM d) fullShare.right (xhalf I c d) ∗ wOwn I c ∗ outPos c d 0 ∗ outCred c d) -∗ Q ⟨⟩) -∗ WP c (ownOps (ringNames c) d) Q) := by
  have hp := put_step I K κs c (Q := Q) d 0 (by decide)
    (shapeCast S1x512x512 (tile (shapeCast S512x8192 (xhalf I c d) shapeCasts_S512x8192_S512x8192) (I.w c)) shapeCasts_S512x512_S1x512x512)
    (by rw [shapeCast_shapeCast, shapeCast_self]; rfl)
  unfold ownOps outPos
  iintro ⟨HR, Hx, Hw, Hs, HK, ⟨Ha, #Hr⟩⟩ Hk
  iapply (load_half c d fullShare.right (xhalf I c d) _ _) $$ Hx
  iintro Hx
  iapply (load_w I c _ _) $$ Hw
  iintro Hw
  iapply hp $$ [HR Hs HK]
  · isplitl [HR]; · iexact HR
    isplitl [Hs]; · iexact Hs
    isplitl [HK]; · iexact HK
    iexact Hr
  iintro Hc
  iapply Hk
  isplitl [Hx]; · iexact Hx
  isplitl [Hw]; · iexact Hw
  isplitl [Ha]
  · isplitl [Ha]; · iexact Ha
    iexact Hr
  iexact Hc

/-- Step `s + 1`: the tile of the rows copy `s` brought, once the previous tile has left the staging slot. -/
theorem tile_step {Q : PUnit.{1} → sProp 𝕄} (d : Bool) (s : ℕ) (hs : s < 7) (l : List Ent) (hl : Above 0 l) :
    iprop(recs I K κs ∗ rowsAt I c d s fullShare.right ∗ wOwn I c ∗ outKit c d (s + 1) ∗ outPos c d s ∗ outCred c d ∗ owing c l)
      ⊢ iprop(((rowsAt I c d s fullShare.right ∗ wOwn I c ∗ doneBlk I c d s ∗ outPos c d (s + 1) ∗ outCred c d ∗ owing c l) -∗ Q ⟨⟩)
        -∗ WP c (stepOps (ringNames c) d s) Q) := by
  unfold stepOps rowsAt
  iintro ⟨#HR, Hx, Hw, HK, Ho, Hc, HO⟩ Hk
  iapply (load_slot c d (pb s) fullShare.right (xhalf I (org d c (s + 1)) d) _ _) $$ Hx
  iintro %v ⟨%hv, Hx⟩
  iapply (load_w I c _ _) $$ Hw
  iintro Hw
  have hp := put_step I K κs c (Q := Q) d (s + 1) (by omega)
    (shapeCast S1x512x512 (tile (shapeCast S512x8192 v shapeCasts_S1x512x8192_S512x8192) (I.w c)) shapeCasts_S512x512_S1x512x512)
    (by rw [shapeCast_shapeCast, hv]; rfl)
  iapply (seq_step c (outWaitOp (ringNames c) d s) (putOps (ringNames c) d (s + 1)
    (shapeCast S1x512x512 (tile (shapeCast S512x8192 v shapeCasts_S1x512x8192_S512x8192) (I.w c)) shapeCasts_S512x512_S1x512x512)))
  iapply (out_wait I K κs c d s (by omega) l hl) $$ [Ho Hc HO]
  · isplitr; · iexact HR
    isplitl [Ho]; · iexact Ho
    isplitl [Hc] <;> iassumption
  iintro ⟨Ho, Hb, Hs, HO⟩
  unfold outPos
  icases Ho with ⟨Ha, #Hr⟩
  iapply hp $$ [Hs HK]
  · isplitr; · iexact HR
    isplitl [Hs]; · iexact Hs
    isplitl [HK]; · iexact HK
    iexact Hr
  iintro Hc
  iapply Hk
  isplitl [Hx]; · iexact Hx
  isplitl [Hw]; · iexact Hw
  isplitl [Hb]; · iexact Hb
  isplitl [Ha]
  · isplitl [Ha]; · iexact Ha
    iexact Hr
  isplitl [Hc]; · iexact Hc
  iexact HO

end Cert.KernelIdealRing

end
-- ==== Proof.KernelIdealRing.Both.lean ====
/-
The steps as the body takes them: in one direction, then in the other.
-/
module

public import proofs.«01_k».proof.Proof.KernelIdealRing.Tiles
public import Idealize.SL.BI.BigOpNat

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × CK → ℕ) (κs : Key → ℕ) (c : Dev nD)

/-! ## Both directions -/

/-- A thing held in both directions. -/
def two (A : Bool → sProp 𝕄) : sProp 𝕄 := bigSep Finset.univ A

/-- Both directions are the one and the other. -/
theorem two_eq (A : Bool → sProp 𝕄) : two A = iprop(A false ∗ A true) := by
  unfold two
  rw [bigSep_univ_eq_bigSepL [false, true] (by decide) (by decide), bigSepL_cons_cons, bigSepL_singleton]
  rfl

/-- Two things held in both directions. -/
theorem two_sep (A B : Bool → sProp 𝕄) : two (fun d => iprop(A d ∗ B d)) = iprop(two A ∗ two B) := by
  unfold two
  exact bigSep_sep' Finset.univ A B

/-- What follows in each direction follows in both. -/
theorem two_mono {A B : Bool → sProp 𝕄} (h : ∀ d, A d ⊢ B d) : two A ⊢ two B := by
  unfold two
  exact bigSep_mono fun d _ => h d

/-- What an update yields in each direction it yields in both. -/
theorem two_fupd {A B : Bool → sProp 𝕄} (h : ∀ d, A d ⊢ iprop(|={Set.univ}=> B d)) : two A ⊢ iprop(|={Set.univ}=> two B) := by
  unfold two
  exact (bigSep_mono fun d _ => h d).trans (bigSep_fupd _ _)

instance two_persistent (A : Bool → sProp 𝕄) [∀ d, BI.Persistent (A d)] : BI.Persistent (two A) := by unfold two; infer_instance

/-- A step taken in one direction, then in the other. -/
theorem both {R S₀ S₁ S₂ : sProp 𝕄} [BI.Persistent R] {A B : Bool → sProp 𝕄} {p : Bool → TP F} {Q : PUnit.{1} → sProp 𝕄}
    (hf : ∀ Q : PUnit.{1} → sProp 𝕄, iprop(R ∗ A false ∗ S₀) ⊢ iprop(((B false ∗ S₁) -∗ Q ⟨⟩) -∗ WP c (p false) Q))
    (ht : ∀ Q : PUnit.{1} → sProp 𝕄, iprop(R ∗ A true ∗ S₁) ⊢ iprop(((B true ∗ S₂) -∗ Q ⟨⟩) -∗ WP c (p true) Q)) :
    iprop(R ∗ two A ∗ S₀) ⊢ iprop(((two B ∗ S₂) -∗ Q ⟨⟩) -∗ WP c (p false >>= fun _ => p true) Q) := by
  rw [two_eq, two_eq]
  iintro ⟨#HR, ⟨HA, HA'⟩, HS⟩ Hk
  iapply (seq_step c (p false) (p true))
  iapply (hf _) $$ [HA HS]
  · isplitr; · iexact HR
    isplitl [HA] <;> iassumption
  iintro ⟨HB, HS⟩
  iapply (ht _) $$ [HA' HS]
  · isplitr; · iexact HR
    isplitl [HA'] <;> iassumption
  iintro ⟨HB', HS⟩
  iapply Hk
  isplitl [HB HB']
  · isplitl [HB] <;> iassumption
  iexact HS

/-- A lower bound is a bound. -/
theorem Above.mono {a b : ℕ} {l : List Ent} (h : a ≤ b) (hl : Above b l) : Above a l := fun e he => ⟨(hl e he).1, h.trans_lt (hl e he).2⟩
/-- A bound on a list bounds its tail. -/
theorem Above.tail {b : ℕ} {e : Ent} {l : List Ent} (hl : Above b (e :: l)) : Above b l := fun e he => hl e (List.mem_cons_of_mem _ he)

/-! ## The states of one direction -/

/-- `r` copies have arrived. -/
def recvSt (r : ℕ) (d : Bool) : sProp 𝕄 :=
  iprop(recvPos c d r ∗ bigSep (Finset.Ico r 7) fun s => cred (tallyAt (cell c (.recv d (pb s))) s NC))

/-- What copy `s` brought, and that its slot's use is over when it is read. -/
def got (s : ℕ) (d : Bool) : sProp 𝕄 := iprop(rowsAt I c d s fullShare ∗ reached ER (cell c (.recv d (pb s))) (s / 2 + 1))

/-- `k` credits have been taken. -/
def crdSt (k : ℕ) (d : Bool) : sProp 𝕄 :=
  iprop(crdPos c d k ∗ bigSep (Finset.Ico k 5) fun j => cred (tallyAt (cell c (.credit d)) j 1))

/-- The next device has room for copy `s`. -/
def rdy (s : ℕ) (d : Bool) : sProp 𝕄 := ready (dn d c) d (pb s) (s / 2)

instance rdy_persistent (s : ℕ) (d : Bool) : BI.Persistent (rdy (F := F) c s d) := by unfold rdy; infer_instance

/-- `w` copies have been issued. -/
def copySt (w : ℕ) (d : Bool) : sProp 𝕄 := bigSep (Finset.Ico w 7) fun s => copyKit c d s

/-- `v` copies have left. -/
def sndSt (v : ℕ) (d : Bool) : sProp 𝕄 :=
  iprop(sendPos c d v ∗ reached ER (cell c (.send d (pb v))) (v / 2) ∗ reached ER (cell c (.send d (!pb v))) ((v + 1) / 2))

/-- Copy `s` is on its way. -/
def flying (s : ℕ) (d : Bool) : sProp 𝕄 := cred (tallyAt (cell c (.send d (pb s))) 0 NC)

/-- `a` slots have been freed again and `a` credits returned. -/
def readSt (a : ℕ) (d : Bool) : sProp 𝕄 :=
  iprop(Release.readerAt ES (c, d, pb a) (a / 2 + 1) ∗ Release.readerAt ES (c, d, !pb a) ((a + 1) / 2 + 1) ∗ readyTwo c d a
    ∗ bigSep (Finset.Ico a 5) fun j => dutyTok ER (cell (up d c) (.credit d)) 0 j)

/-- `o` tiles are in the result. -/
def outSt (o : ℕ) (d : Bool) : sProp 𝕄 := iprop(outPos c d o ∗ bigSep (Finset.range o) fun s => doneBlk I c d s)

/-- `p` tiles have been sent to the result. -/
def kitSt (p : ℕ) (d : Bool) : sProp 𝕄 := bigSep (Finset.Ico p 8) fun s => outKit c d s

/-- The half of the device's own rows. -/
def halfOwn (q : PosShare TreeShare) (d : Bool) : sProp 𝕄 := owns (c : Thread nD τ) (halfM d) q (xhalf I c d)

/-! ## The steps -/

/-- Receiving in both directions. -/
theorem recvB_step {Q : PUnit.{1} → sProp 𝕄} (s : ℕ) (hs : s < 7) (l : List Ent) (hl : Above (2 + 2 * s) l) :
    iprop(recs I K κs ∗ two (recvSt c s) ∗ owing c l)
      ⊢ iprop((((two (recvSt c (s + 1)) ∗ two (got I c s)) ∗ owing c l) -∗ Q ⟨⟩) -∗ WP c (recvB s) Q) := by
  have hd : ∀ d, ∀ Q : PUnit.{1} → sProp 𝕄, iprop(recs I K κs ∗ recvSt c s d ∗ owing c l)
      ⊢ iprop((((recvSt c (s + 1) d ∗ got I c s d) ∗ owing c l) -∗ Q ⟨⟩) -∗ WP c (recvOp d s) Q) := fun d Q => by
    unfold recvSt got
    rw [bigSep_Ico_succ_bot hs]
    iintro ⟨HR, ⟨Hp, ⟨Hc, Hcs⟩⟩, HO⟩ Hk
    iapply (recv_step I K κs c d s hs l hl) $$ [HR Hp Hc HO]
    · isplitl [HR]; · iexact HR
      isplitl [Hp]; · iexact Hp
      isplitl [Hc] <;> iassumption
    iintro ⟨Hp, Hr, Hrow, HO⟩
    iapply Hk
    isplitl [Hp Hr Hrow Hcs]
    · isplitl [Hp Hcs]
      · isplitl [Hp] <;> iassumption
      isplitl [Hrow] <;> iassumption
    iexact HO
  have h := both c (A := recvSt c s) (B := fun d => iprop(recvSt c (s + 1) d ∗ got I c s d))
    (p := fun d => recvOp d s) (Q := Q) (hd false) (hd true)
  simp only [two_sep] at h
  exact h

/-- Waiting for a credit in both directions. -/
theorem creditWaitB_step {Q : PUnit.{1} → sProp 𝕄} (k : ℕ) (hk : k < 5) (l : List Ent) (hl : Above (3 + 2 * k) l) :
    iprop(recs I K κs ∗ two (crdSt c k) ∗ owing c l)
      ⊢ iprop((((two (crdSt c (k + 1)) ∗ two (rdy c (k + 2))) ∗ owing c l) -∗ Q ⟨⟩) -∗ WP c creditWaitB Q) := by
  have hd : ∀ d, ∀ Q : PUnit.{1} → sProp 𝕄, iprop(recs I K κs ∗ crdSt c k d ∗ owing c l)
      ⊢ iprop((((crdSt c (k + 1) d ∗ rdy c (k + 2) d) ∗ owing c l) -∗ Q ⟨⟩) -∗ WP c (creditWaitOp d) Q) := fun d Q => by
    unfold crdSt
    rw [bigSep_Ico_succ_bot hk]
    iintro ⟨HR, ⟨Hp, ⟨Hc, Hcs⟩⟩, HO⟩ Hk
    iapply (credit_wait I K κs c d k hk l hl) $$ [HR Hp Hc HO]
    · isplitl [HR]; · iexact HR
      isplitl [Hp]; · iexact Hp
      isplitl [Hc] <;> iassumption
    iintro ⟨Hp, Hr, HO⟩
    iapply Hk
    isplitl [Hp Hr Hcs]
    · isplitl [Hp Hcs]
      · isplitl [Hp] <;> iassumption
      unfold rdy; iexact Hr
    iexact HO
  have h := both c (A := crdSt c k) (B := fun d => iprop(crdSt c (k + 1) d ∗ rdy c (k + 2) d))
    (p := creditWaitOp) (Q := Q) (hd false) (hd true)
  simp only [two_sep] at h
  exact h

/-- Sending in both directions. -/
theorem sendB_step {Q : PUnit.{1} → sProp 𝕄} (w v : ℕ) (hw : w < 7) (hv : w = v ∨ w = v + 1) (l : List Ent) :
    iprop(recs I K κs ∗ (two (fun d => srcOwn I c d w) ∗ two (rdy c w) ∗ two (copySt c w) ∗ two (sndSt c v)) ∗ owing c (.rcv false w :: .rcv true w :: l))
      ⊢ iprop((((two (copySt c (w + 1)) ∗ two (sndSt c v) ∗ two (flying c w)) ∗ owing c l) -∗ Q ⟨⟩) -∗ WP c (sendB (ringNames c) w) Q) := by
  have hd : ∀ d l, ∀ Q : PUnit.{1} → sProp 𝕄,
      iprop(recs I K κs ∗ (srcOwn I c d w ∗ rdy c w d ∗ copySt c w d ∗ sndSt c v d) ∗ owing c (.rcv d w :: l))
      ⊢ iprop((((copySt c (w + 1) d ∗ sndSt c v d ∗ flying c w d) ∗ owing c l) -∗ Q ⟨⟩) -∗ WP c (sendOp (ringNames c) d w) Q) := fun d l Q => by
    have hr : iprop(reached ER (cell c (.send d (pb v))) (v / 2) ∗ reached ER (cell c (.send d (!pb v))) ((v + 1) / 2))
        ⊢ (reached ER (cell c (.send d (pb w))) (w / 2) : sProp 𝕄) := by
      rcases hv with rfl | rfl
      · iintro ⟨H, -⟩; iexact H
      · rw [pb_succ]; iintro ⟨-, H⟩; iexact H
    unfold sndSt copySt
    rw [bigSep_Ico_succ_bot hw]
    iintro ⟨HR, ⟨Hx, Hy, ⟨Hc, Hcs⟩, ⟨Hp, #Hr⟩⟩, HO⟩ Hk
    iapply (send_step I K κs c d w hw l) $$ [HR Hx Hy Hc HO]
    · isplitl [HR]; · iexact HR
      isplitl [Hx]; · iexact Hx
      isplitl [Hy]; · unfold rdy; iexact Hy
      isplitl [Hc]; · iexact Hc
      isplitr
      · iapply hr; iexact Hr
      iexact HO
    iintro ⟨Hf, HO⟩
    iapply Hk
    isplitl [Hf Hp Hcs]
    · isplitl [Hcs]; · iexact Hcs
      isplitl [Hp]
      · isplitl [Hp]; · iexact Hp
        iexact Hr
      unfold flying; iexact Hf
    iexact HO
  have h := both c (A := fun d => iprop(srcOwn I c d w ∗ rdy c w d ∗ copySt c w d ∗ sndSt c v d)) (B := fun d => iprop(copySt c (w + 1) d ∗ sndSt c v d ∗ flying c w d))
    (p := fun d => sendOp (ringNames c) d w) (Q := Q) (hd false (.rcv true w :: l)) (hd true l)
  simp only [two_sep] at h
  exact h

/-- Waiting in both directions until the source may be reused. -/
theorem sentB_step {Q : PUnit.{1} → sProp 𝕄} (v : ℕ) (hv : v < 7) (l : List Ent) (hl : Above 0 l) :
    iprop(recs I K κs ∗ (two (sndSt c v) ∗ two (flying c v)) ∗ owing c l)
      ⊢ iprop((((two (sndSt c (v + 1)) ∗ two (fun d => srcOwn I c d v)) ∗ owing c l) -∗ Q ⟨⟩) -∗ WP c (sentB v) Q) := by
  have hd : ∀ d, ∀ Q : PUnit.{1} → sProp 𝕄, iprop(recs I K κs ∗ (sndSt c v d ∗ flying c v d) ∗ owing c l)
      ⊢ iprop((((sndSt c (v + 1) d ∗ srcOwn I c d v) ∗ owing c l) -∗ Q ⟨⟩) -∗ WP c (sentOp d v) Q) := fun d Q => by
    unfold sndSt flying
    rw [not_pb_succ, pb_succ, half_succ_succ]
    iintro ⟨HR, ⟨⟨Hp, -, #Hr⟩, Hc⟩, HO⟩ Hk
    iapply (sent_step I K κs c d v hv l hl) $$ [HR Hp Hc HO]
    · isplitl [HR]; · iexact HR
      isplitl [Hp]; · iexact Hp
      isplitl [Hc] <;> iassumption
    iintro ⟨Hp, Hs, Hr', HO⟩
    iapply Hk
    isplitl [Hp Hr' Hs]
    · isplitl [Hp Hr']
      · isplitl [Hp]; · iexact Hp
        isplitr; · iexact Hr
        iexact Hr'
      iexact Hs
    iexact HO
  have h := both c (A := fun d => iprop(sndSt c v d ∗ flying c v d)) (B := fun d => iprop(sndSt c (v + 1) d ∗ srcOwn I c d v))
    (p := fun d => sentOp d v) (Q := Q) (hd false) (hd true)
  simp only [two_sep] at h
  exact h

/-- The tiles of what arrived, in both directions. -/
theorem stepB_step {Q : PUnit.{1} → sProp 𝕄} (s : ℕ) (hs : s < 7) (l : List Ent) (hl : Above 0 l) :
    iprop(recs I K κs ∗ (two (fun d => rowsAt I c d s fullShare.right) ∗ two (outSt I c s) ∗ two (outCred c) ∗ two (kitSt c (s + 1))) ∗ (wOwn I c ∗ owing c l))
      ⊢ iprop((((two (fun d => rowsAt I c d s fullShare.right) ∗ two (outSt I c (s + 1)) ∗ two (outCred c) ∗ two (kitSt c (s + 2))) ∗ (wOwn I c ∗ owing c l)) -∗ Q ⟨⟩)
        -∗ WP c (stepB (ringNames c) s) Q) := by
  have hd : ∀ d, ∀ Q : PUnit.{1} → sProp 𝕄,
      iprop(recs I K κs ∗ (rowsAt I c d s fullShare.right ∗ outSt I c s d ∗ outCred c d ∗ kitSt c (s + 1) d) ∗ (wOwn I c ∗ owing c l))
      ⊢ iprop((((rowsAt I c d s fullShare.right ∗ outSt I c (s + 1) d ∗ outCred c d ∗ kitSt c (s + 2) d) ∗ (wOwn I c ∗ owing c l)) -∗ Q ⟨⟩)
        -∗ WP c (stepOps (ringNames c) d s) Q) := fun d Q => by
    unfold outSt kitSt
    rw [bigSep_Ico_succ_bot (show s + 1 < 8 by omega), bigSep_range_succ]
    iintro ⟨HR, ⟨Hx, ⟨Hp, Hb⟩, Hc, ⟨Hk1, Hks⟩⟩, ⟨Hw, HO⟩⟩ Hk
    iapply (tile_step I K κs c d s hs l hl) $$ [HR Hx Hw Hk1 Hp Hc HO]
    · isplitl [HR]; · iexact HR
      isplitl [Hx]; · iexact Hx
      isplitl [Hw]; · iexact Hw
      isplitl [Hk1]; · iexact Hk1
      isplitl [Hp]; · iexact Hp
      isplitl [Hc] <;> iassumption
    iintro ⟨Hx, Hw, Hb1, Hp, Hc, HO⟩
    iapply Hk
    isplitl [Hx Hb1 Hb Hp Hc Hks]
    · isplitl [Hx]; · iexact Hx
      isplitl [Hp Hb1 Hb]
      · isplitl [Hp]; · iexact Hp
        isplitl [Hb1] <;> iassumption
      isplitl [Hc] <;> iassumption
    isplitl [Hw] <;> iassumption
  have h := both c (A := fun d => iprop(rowsAt I c d s fullShare.right ∗ outSt I c s d ∗ outCred c d ∗ kitSt c (s + 1) d)) (B := fun d => iprop(rowsAt I c d s fullShare.right ∗ outSt I c (s + 1) d ∗ outCred c d ∗ kitSt c (s + 2) d))
    (p := fun d => stepOps (ringNames c) d s) (Q := Q) (hd false) (hd true)
  simp only [two_sep] at h
  exact h

/-- The tiles of the device's own rows. -/
theorem ownB_step {Q : PUnit.{1} → sProp 𝕄} :
    iprop(recs I K κs ∗ (two (halfOwn I c fullShare.right) ∗ two (fun d => slotAt c (stM d)) ∗ two (outSt I c 0) ∗ two (kitSt c 0)) ∗ wOwn I c)
      ⊢ iprop((((two (halfOwn I c fullShare.right) ∗ two (outSt I c 0) ∗ two (outCred c) ∗ two (kitSt c 1)) ∗ wOwn I c) -∗ Q ⟨⟩)
        -∗ WP c (ownB (ringNames c)) Q) := by
  have hd : ∀ d, ∀ Q : PUnit.{1} → sProp 𝕄,
      iprop(recs I K κs ∗ (halfOwn I c fullShare.right d ∗ slotAt c (stM d) ∗ outSt I c 0 d ∗ kitSt c 0 d) ∗ wOwn I c)
      ⊢ iprop((((halfOwn I c fullShare.right d ∗ outSt I c 0 d ∗ outCred c d ∗ kitSt c 1 d) ∗ wOwn I c) -∗ Q ⟨⟩)
        -∗ WP c (ownOps (ringNames c) d) Q) := fun d Q => by
    unfold outSt kitSt halfOwn
    rw [bigSep_Ico_succ_bot (show 0 < 8 by omega)]
    iintro ⟨HR, ⟨Hx, Hs, ⟨Hp, Hb⟩, ⟨Hk1, Hks⟩⟩, Hw⟩ Hk
    iapply (own_step I K κs c d) $$ [HR Hx Hw Hs Hk1 Hp]
    · isplitl [HR]; · iexact HR
      isplitl [Hx]; · iexact Hx
      isplitl [Hw]; · iexact Hw
      isplitl [Hs]; · iexact Hs
      isplitl [Hk1] <;> iassumption
    iintro ⟨Hx, Hw, Hp, Hc⟩
    iapply Hk
    isplitl [Hx Hb Hp Hc Hks]
    · isplitl [Hx]; · iexact Hx
      isplitl [Hp Hb]
      · isplitl [Hp] <;> iassumption
      isplitl [Hc] <;> iassumption
    iexact Hw
  have h := both c (A := fun d => iprop(halfOwn I c fullShare.right d ∗ slotAt c (stM d) ∗ outSt I c 0 d ∗ kitSt c 0 d)) (B := fun d => iprop(halfOwn I c fullShare.right d ∗ outSt I c 0 d ∗ outCred c d ∗ kitSt c 1 d))
    (p := fun d => ownOps (ringNames c) d) (Q := Q) (hd false) (hd true)
  simp only [two_sep] at h
  exact h

/-- Waiting for the last tiles' copies in both directions. -/
theorem outWaitB_step {Q : PUnit.{1} → sProp 𝕄} (s : ℕ) (hs : s < 8) (l : List Ent) (hl : Above 0 l) :
    iprop(recs I K κs ∗ (two (outSt I c s) ∗ two (outCred c)) ∗ owing c l)
      ⊢ iprop((((two (outSt I c (s + 1)) ∗ two (fun d => slotAt c (stM d))) ∗ owing c l) -∗ Q ⟨⟩) -∗ WP c (outWaitB (ringNames c) s) Q) := by
  have hd : ∀ d, ∀ Q : PUnit.{1} → sProp 𝕄, iprop(recs I K κs ∗ (outSt I c s d ∗ outCred c d) ∗ owing c l)
      ⊢ iprop((((outSt I c (s + 1) d ∗ slotAt c (stM d)) ∗ owing c l) -∗ Q ⟨⟩) -∗ WP c (outWaitOp (ringNames c) d s) Q) := fun d Q => by
    unfold outSt
    rw [bigSep_range_succ]
    iintro ⟨HR, ⟨⟨Hp, Hb⟩, Hc⟩, HO⟩ Hk
    iapply (out_wait I K κs c d s hs l hl) $$ [HR Hp Hc HO]
    · isplitl [HR]; · iexact HR
      isplitl [Hp]; · iexact Hp
      isplitl [Hc] <;> iassumption
    iintro ⟨Hp, Hb1, Hs, HO⟩
    iapply Hk
    isplitl [Hp Hb Hb1 Hs]
    · isplitl [Hp Hb Hb1]
      · isplitl [Hp]; · iexact Hp
        isplitl [Hb1] <;> iassumption
      iexact Hs
    iexact HO
  have h := both c (A := fun d => iprop(outSt I c s d ∗ outCred c d)) (B := fun d => iprop(outSt I c (s + 1) d ∗ slotAt c (stM d)))
    (p := fun d => outWaitOp (ringNames c) d s) (Q := Q) (hd false) (hd true)
  simp only [two_sep] at h
  exact h

end Cert.KernelIdealRing

end
-- ==== Proof.KernelIdealRing.Body.lean ====
/-
The body, block by block.
-/
module

public import proofs.«01_k».proof.Proof.KernelIdealRing.Both
public import Idealize.SL.BI.BigOpNat

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × CK → ℕ) (κs : Key → ℕ) (c : Dev nD)

/-! ## Freeing the slots -/

/-- A slot is not owned twice. -/
theorem slotSt_false (k : Key) : iprop(slotSt (F := F) k ∗ slotSt k) ⊢ False :=
  Release.slot_slot_false ⟨_, View.emb_mem_set (v := (slotM k.2.1 k.2.2).view) (fun _ => ⟨0, by rename_i a; fin_cases a <;> decide⟩)⟩

/-- Owning a slot with known contents is owning the slot. -/
theorem slot_of_owns (d b : Bool) (X : FVec F S512x8192 .bf16) :
    owns (c : Thread nD τ) (slotM d b) fullShare X ⊢ slotSt (F := F) (c, d, b) := by
  unfold owns slotSt slotAt Release.slot
  iintro ⟨%f, -, H⟩
  iexists f
  iexact H

/-- A slot of the device is handed back to the sender once more. -/
theorem release (d b : Bool) (n : ℕ) :
    iprop(recs I K κs ∗ Release.readerAt ES ((c, d, b) : Key) n ∗ slotSt (c, d, b))
      ⊢ iprop(|={Set.univ}=> (Release.readerAt ES ((c, d, b) : Key) (n + 1) ∗ Release.released ES ((c, d, b) : Key) (n + 1))) := by
  iintro ⟨HR, Hr, Hs⟩
  iapply (Release.slot_release (E := ES) (k := ((c, d, b) : Key)) (S := slotSt (F := F) (c, d, b)) (ι := κs (c, d, b)) (Set.mem_univ _) (slotSt_false (c, d, b)) n) $$ [HR Hr Hs]
  isplitl [HR]; · iapply (recs_slot I K κs (c, d, b)); iexact HR
  isplitl [Hr] <;> iassumption

/-- The receive slots as the device starts. -/
def slots0 (d : Bool) : sProp 𝕄 :=
  iprop((slotSt (c, d, false) ∗ slotSt (c, d, true)) ∗ (Release.readerAt ES ((c, d, false) : Key) 0 ∗ Release.readerAt ES ((c, d, true) : Key) 0)
    ∗ bigSep (Finset.Ico 0 5) fun j => dutyTok ER (cell (up d c) (.credit d)) 0 j)

/-- Both slots of a direction, freed for their first use. -/
theorem open_slots (d : Bool) : iprop(recs I K κs ∗ slots0 c d) ⊢ iprop(|={Set.univ}=> readSt c 0 d) := by
  unfold slots0 readSt readyTwo ready
  iintro ⟨#HR, ⟨Hs, Hs'⟩, ⟨Hr, Hr'⟩, Ht⟩
  imod (release I K κs c d false 0) $$ [Hr Hs] with ⟨Hr, #Hl⟩
  · isplitr; · iexact HR
    isplitl [Hr] <;> iassumption
  imod (release I K κs c d true 0) $$ [Hr' Hs'] with ⟨Hr', #Hl'⟩
  · isplitr; · iexact HR
    isplitl [Hr'] <;> iassumption
  imodintro
  isplitl [Hr]; · iexact Hr
  isplitl [Hr']; · iexact Hr'
  isplitr
  · isplitr
    · isplitr; · iexact Hl
      iapply (recs_reached I K κs c (.recv d false)); iexact HR
    · isplitr; · iexact Hl'
      iapply (recs_reached I K κs c (.recv d true)); iexact HR
  iexact Ht

/-- The slot of copy `a` is freed and a credit for it returned. -/
theorem credit_step {Q : PUnit.{1} → sProp 𝕄} (d : Bool) (a : ℕ) (ha : a < 5) (l : List Ent) :
    iprop(recs I K κs ∗ (readSt c a d ∗ got I c a d) ∗ owing c (.crd d a :: l))
      ⊢ iprop(((readSt c (a + 1) d ∗ owing c l) -∗ Q ⟨⟩) -∗ WP c (creditOp (ringNames c) d a) Q) := by
  have hp : kPay I (up d c) (.credit d) 0 a = readyTwo c d (a + 1) := by
    show readyTwo (dn d (up d c)) d (a + 1) = _
    rw [dn_up]
  unfold readSt got rowsAt
  rw [bigSep_Ico_succ_bot ha, not_pb_succ, pb_succ, half_succ_succ]
  iintro ⟨#HR, ⟨⟨Hr, Hr', #Hy, ⟨Ht, Hts⟩⟩, Hrow, #Hrch⟩, HO⟩ Hk
  ihave Hs := (slot_of_owns c d (pb a) _) $$ Hrow
  imod (release I K κs c d (pb a) (a / 2 + 1)) $$ [Hr Hs] with ⟨Hr, #Hl⟩
  · isplitr; · iexact HR
    isplitl [Hr] <;> iassumption
  ihave #Hy' : readyTwo c d (a + 1) $$ []
  · unfold readyTwo
    rw [not_pb_succ, pb_succ, half_succ_succ]
    icases Hy with ⟨-, Hy2⟩
    isplitr; · iexact Hy2
    unfold ready
    isplitr; · iexact Hl
    iexact Hrch
  unfold creditOp
  iapply (signal_one I K κs c (.crd d a) (creditS d) rfl (up d c) rfl a (Finset.mem_range.mpr ha) rfl l) $$ [Ht HO]
  · isplitr; · iexact HR
    isplitl [Ht]; · iexact Ht
    isplitr
    · iapply (Entails.of_eq hp.symm); iexact Hy'
    iexact HO
  iintro HO
  iapply Hk
  isplitl [Hr Hr' Hts]
  · isplitl [Hr']; · iexact Hr'
    isplitl [Hr]; · iexact Hr
    isplitr; · iexact Hy'
    iexact Hts
  iexact HO

/-- Freeing a slot in both directions and telling the device upstream. -/
theorem creditB_step {Q : PUnit.{1} → sProp 𝕄} (a : ℕ) (ha : a < 5) (l : List Ent) :
    iprop(recs I K κs ∗ (two (readSt c a) ∗ two (got I c a)) ∗ owing c (.crd false a :: .crd true a :: l))
      ⊢ iprop(((two (readSt c (a + 1)) ∗ owing c l) -∗ Q ⟨⟩) -∗ WP c (creditB (ringNames c) a) Q) := by
  have h := both c (A := fun d => iprop(readSt c a d ∗ got I c a d)) (B := readSt c (a + 1)) (p := fun d => creditOp (ringNames c) d a) (Q := Q)
    (fun Q => credit_step I K κs c false a ha (.crd true a :: l)) (fun Q => credit_step I K κs c true a ha l)
  simp only [two_sep] at h
  exact h

/-! ## The rows a copy brought, split for the next copy and the tile -/

/-- The rows that arrived, at two half shares. -/
theorem rows_halves (d : Bool) (s : ℕ) : rowsAt I c d s fullShare ⊣⊢ iprop(srcOwn I c d (s + 1) ∗ rowsAt I c d s fullShare.right) := by
  rw [srcOwn_succ]
  exact owns_halves (Val := Elt F) (c : Thread nD τ) (slotM d (pb s)) fullShare (xhalf I (org d c (s + 1)) d)

/-- A half of the device's own rows, at two half shares. -/
theorem half_halves (d : Bool) : halfOwn I c fullShare d ⊣⊢ iprop(srcOwn I c d 0 ∗ halfOwn I c fullShare.right d) := by
  unfold halfOwn srcOwn
  exact owns_halves (Val := Elt F) (c : Thread nD τ) (halfM d) fullShare (xhalf I c d)

/-- In both directions: one share for the copy onwards, one for the product. -/
theorem got_split (s : ℕ) : two (got I c s)
    ⊢ iprop(two (fun d => srcOwn I c d (s + 1)) ∗ two (fun d => rowsAt I c d s fullShare.right) ∗ two (fun d => reached ER (cell c (.recv d (pb s))) (s / 2 + 1))) := by
  rw [← two_sep, ← two_sep]
  refine two_mono fun d => ?_
  unfold got
  iintro ⟨H, Hr⟩
  ihave H := (rows_halves I c d s).1 $$ H
  icases H with ⟨H, H'⟩
  isplitl [H]; · iexact H
  isplitl [H'] <;> iassumption

/-- In both directions the two shares together again. -/
theorem got_join (s : ℕ) : iprop(two (fun d => srcOwn I c d (s + 1)) ∗ two (fun d => rowsAt I c d s fullShare.right)
      ∗ two (fun d => reached ER (cell c (.recv d (pb s))) (s / 2 + 1))) ⊢ two (got I c s) := by
  rw [← two_sep, ← two_sep]
  refine two_mono fun d => ?_
  unfold got
  iintro ⟨H, H', Hr⟩
  isplitl [H H']
  · iapply (rows_halves I c d s).2
    isplitl [H]; · iexact H
    iexact H'
  iexact Hr

/-- The device's own rows: one share for the first copies, one for the product. -/
theorem half_split : two (halfOwn I c fullShare) ⊢ iprop(two (fun d => srcOwn I c d 0) ∗ two (halfOwn I c fullShare.right)) := by
  rw [← two_sep]
  exact two_mono fun d => (half_halves I c d).1

/-- The device's own rows whole again. -/
theorem half_join : iprop(two (fun d => srcOwn I c d 0) ∗ two (halfOwn I c fullShare.right)) ⊢ two (halfOwn I c fullShare) := by
  rw [← two_sep]
  exact two_mono fun d => (half_halves I c d).2

/-! ## The iterations -/

/-- Before iteration `k + 1`. -/
def iterSt (k : ℕ) : sProp 𝕄 :=
  iprop(two (recvSt c (k + 1)) ∗ two (crdSt c k) ∗ two (copySt c (k + 2)) ∗ two (sndSt c (k + 2)) ∗ two (outSt I c (k + 1)) ∗ two (outCred c)
    ∗ two (kitSt c (k + 2)) ∗ wOwn I c)

/-- One iteration of the ring, from what is held before to what is held after. -/
theorem main_step {Q : PUnit.{1} → sProp 𝕄} (k : ℕ) (hk : k < 5) (l : List Ent) (hl : Above (2 * k + 4) (.rcv false (k + 2) :: .rcv true (k + 2) :: l))
    (rest : TP F) :
    iprop(recs I K κs ∗ iterSt I c k ∗ owing c (.rcv false (k + 2) :: .rcv true (k + 2) :: l))
      ⊢ iprop(((iterSt I c (k + 1) ∗ two (got I c (k + 1)) ∗ owing c l) -∗ WP c rest Q) -∗ WP c (mainB (ringNames c) (k + 1) rest) Q) := by
  have hl0 : Above 0 l := (hl.tail.tail).mono (by omega)
  unfold iterSt mainB
  iintro ⟨#HR, ⟨Hrecv, Hcrd, Hcopy, Hsnd, Hout, Hoc, Hkit, Hw⟩, HO⟩ Hk
  iapply (seq_step c (recvB (k + 1)))
  iapply (recvB_step I K κs c (k + 1) (by omega) _ (hl.mono (by omega))) $$ [Hrecv HO]
  · isplitr; · iexact HR
    isplitl [Hrecv] <;> iassumption
  iintro ⟨⟨Hrecv, Hgot⟩, HO⟩
  iapply (seq_step c creditWaitB)
  iapply (creditWaitB_step I K κs c k hk _ (hl.mono (by omega))) $$ [Hcrd HO]
  · isplitr; · iexact HR
    isplitl [Hcrd] <;> iassumption
  iintro ⟨⟨Hcrd, Hrdy⟩, HO⟩
  ihave Hgot := (got_split I c (k + 1)) $$ Hgot
  icases Hgot with ⟨Hsrc, Hrow, Hrch⟩
  iapply (seq_step c (sendB (ringNames c) (k + 1 + 1)))
  iapply (sendB_step I K κs c (k + 2) (k + 2) (by omega) (.inl rfl) l) $$ [Hsrc Hrdy Hcopy Hsnd HO]
  · isplitr; · iexact HR
    isplitl [Hsrc Hrdy Hcopy Hsnd]
    · isplitl [Hsrc]; · iexact Hsrc
      isplitl [Hrdy]; · iexact Hrdy
      isplitl [Hcopy] <;> iassumption
    iexact HO
  iintro ⟨⟨Hcopy, Hsnd, Hfly⟩, HO⟩
  iapply (seq_step c (stepB (ringNames c) (k + 1)))
  iapply (stepB_step I K κs c (k + 1) (by omega) l hl0) $$ [Hrow Hout Hoc Hkit Hw HO]
  · isplitr; · iexact HR
    isplitl [Hrow Hout Hoc Hkit]
    · isplitl [Hrow]; · iexact Hrow
      isplitl [Hout]; · iexact Hout
      isplitl [Hoc] <;> iassumption
    isplitl [Hw] <;> iassumption
  iintro ⟨⟨Hrow, Hout, Hoc, Hkit⟩, ⟨Hw, HO⟩⟩
  iapply (seq_step c (sentB (k + 1 + 1)))
  iapply (sentB_step I K κs c (k + 2) (by omega) l hl0) $$ [Hsnd Hfly HO]
  · isplitr; · iexact HR
    isplitl [Hsnd Hfly]
    · isplitl [Hsnd] <;> iassumption
    iexact HO
  iintro ⟨⟨Hsnd, Hsrc⟩, HO⟩
  iapply Hk
  isplitl [Hrecv Hcrd Hcopy Hsnd Hout Hoc Hkit Hw]
  · isplitl [Hrecv]; · iexact Hrecv
    isplitl [Hcrd]; · iexact Hcrd
    isplitl [Hcopy]; · iexact Hcopy
    isplitl [Hsnd]; · iexact Hsnd
    isplitl [Hout]; · iexact Hout
    isplitl [Hoc]; · iexact Hoc
    isplitl [Hkit] <;> iassumption
  isplitl [Hsrc Hrow Hrch]
  · iapply (got_join I c (k + 1))
    isplitl [Hsrc]; · iexact Hsrc
    isplitl [Hrow] <;> iassumption
  iexact HO

/-- What is owed from an iteration on begins with that iteration's own. -/
theorem tail_mid (k : ℕ) (hk : k < 4) :
    tailL (k + 1) = .rcv false (k + 2) :: .rcv true (k + 2) :: .crd false (k + 1) :: .crd true (k + 1) :: tailL (k + 2) := by
  rcases (by omega : k = 0 ∨ k = 1 ∨ k = 2 ∨ k = 3) with rfl | rfl | rfl | rfl <;> rfl

/-- An iteration's waits lie below what is owed after it. -/
theorem above_tail (k : ℕ) (hk : k < 5) : Above (2 * k + 4) (tailL (k + 1)) := by
  rcases (by omega : k = 0 ∨ k = 1 ∨ k = 2 ∨ k = 3 ∨ k = 4) with rfl | rfl | rfl | rfl | rfl <;> decide

/-- One repeated iteration, with what it owes taken from the script. -/
theorem mid_step {Q : PUnit.{1} → sProp 𝕄} (k : ℕ) (hk : k < 4) :
    iprop(recs I K κs ∗ (iterSt I c k ∗ two (readSt c (k + 1))) ∗ owing c (tailL (k + 1)))
      ⊢ iprop((((iterSt I c (k + 1) ∗ two (readSt c (k + 2))) ∗ owing c (tailL (k + 2))) -∗ Q ⟨⟩) -∗ WP c (midB (ringNames c) (k + 1)) Q) := by
  have ha := above_tail k (by omega)
  rw [tail_mid k hk] at ha ⊢
  unfold midB
  iintro ⟨#HR, ⟨Hit, Hrd⟩, HO⟩ Hk
  iapply (main_step I K κs c k (by omega) _ ha (creditB (ringNames c) (k + 1))) $$ [Hit HO]
  · isplitr; · iexact HR
    isplitl [Hit] <;> iassumption
  iintro ⟨Hit, Hgot, HO⟩
  iapply (creditB_step I K κs c (k + 1) (by omega) (tailL (k + 2))) $$ [Hrd Hgot HO]
  · isplitr; · iexact HR
    isplitl [Hrd Hgot]
    · isplitl [Hrd] <;> iassumption
    iexact HO
  iintro ⟨Hrd, HO⟩
  iapply Hk
  isplitl [Hit Hrd]
  · isplitl [Hit] <;> iassumption
  iexact HO

end Cert.KernelIdealRing

end
-- ==== Proof.KernelIdealRing.Whole.lean ====
/-
The first and last iterations, and the whole body.
-/
module

public import proofs.«01_k».proof.Proof.KernelIdealRing.Body
public import Idealize.SL.BI.BigOpNat

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × CK → ℕ) (κs : Key → ℕ) (c : Dev nD)

/-! ## The first iteration -/

/-- What a device holds once it may send. -/
def readySt : sProp 𝕄 :=
  iprop(two (recvSt c 0) ∗ two (crdSt c 0) ∗ two (copySt c 0) ∗ two (sndSt c 0) ∗ two (outSt I c 0) ∗ two (kitSt c 0) ∗ wOwn I c
    ∗ two (halfOwn I c fullShare) ∗ two (fun d => slotAt c (stM d)) ∗ two (readSt c 0))

/-- At the start both slots downstream are free. -/
theorem ready_all (s : ℕ) (hs : s ≤ 1) : two (fun d => readyTwo (F := F) (dn d c) d 0) ⊢ two (rdy c s) :=
  two_mono fun d => readyTwo_elim (F := F) (dn d c) d (by omega)

/-- The first copies, the tiles of the device's own rows, and the first iteration. -/
theorem first_step {Q : PUnit.{1} → sProp 𝕄} (rest : TP F) :
    iprop(recs I K κs ∗ (readySt I c ∗ two (fun d => readyTwo (dn d c) d 0)) ∗ owing c (.rcv false 0 :: .rcv true 0 :: tailL 0))
      ⊢ iprop((((iterSt I c 0 ∗ two (readSt c 1) ∗ two (halfOwn I c fullShare)) ∗ owing c (tailL 1)) -∗ WP c rest Q)
        -∗ WP c (sendB (ringNames c) 0 >>= fun _ => ownB (ringNames c) >>= fun _ => firstB (ringNames c) >>= fun _ => rest) Q) := by
  have ht : tailL 0 = .rcv false 1 :: .rcv true 1 :: .crd false 0 :: .crd true 0 :: tailL 1 := rfl
  have hl : Above 2 (tailL 0) := by decide
  rw [ht] at hl ⊢
  have hl0 : Above 0 (.crd false 0 :: .crd true 0 :: tailL 1) := (hl.tail.tail).mono (by omega)
  unfold readySt iterSt
  iintro ⟨#HR, ⟨⟨Hrecv, Hcrd, Hcopy, Hsnd, Hout, Hkit, Hw, Hhalf, Hst, Hread⟩, #Hy⟩, HO⟩ Hk
  ihave Hhalf := (half_split I c) $$ Hhalf
  icases Hhalf with ⟨Hsrc, Hhalf⟩
  ihave #Hy0 := (ready_all c 0 (by omega)) $$ Hy
  ihave #Hy1 := (ready_all c 1 (by omega)) $$ Hy
  iapply (seq_step c (sendB (ringNames c) 0))
  iapply (sendB_step I K κs c 0 0 (by omega) (.inl rfl) _) $$ [Hsrc Hcopy Hsnd HO]
  · isplitr; · iexact HR
    isplitl [Hsrc Hcopy Hsnd]
    · isplitl [Hsrc]; · iexact Hsrc
      isplitr; · iexact Hy0
      isplitl [Hcopy] <;> iassumption
    iexact HO
  iintro ⟨⟨Hcopy, Hsnd, Hfly⟩, HO⟩
  iapply (seq_step c (ownB (ringNames c)))
  iapply (ownB_step I K κs c) $$ [Hhalf Hst Hout Hkit Hw]
  · isplitr; · iexact HR
    isplitl [Hhalf Hst Hout Hkit]
    · isplitl [Hhalf]; · iexact Hhalf
      isplitl [Hst]; · iexact Hst
      isplitl [Hout] <;> iassumption
    iexact Hw
  iintro ⟨⟨Hhalf, Hout, Hoc, Hkit⟩, Hw⟩
  iapply (seq_step c (firstB (ringNames c)))
  iapply (seq_step c (recvB 0))
  iapply (recvB_step I K κs c 0 (by omega) _ (hl.mono (by omega))) $$ [Hrecv HO]
  · isplitr; · iexact HR
    isplitl [Hrecv] <;> iassumption
  iintro ⟨⟨Hrecv, Hgot⟩, HO⟩
  ihave Hgot := (got_split I c 0) $$ Hgot
  icases Hgot with ⟨Hsrc, Hrow, Hrch⟩
  iapply (seq_step c (sendB (ringNames c) 1))
  iapply (sendB_step I K κs c 1 0 (by omega) (.inr rfl) _) $$ [Hsrc Hcopy Hsnd HO]
  · isplitr; · iexact HR
    isplitl [Hsrc Hcopy Hsnd]
    · isplitl [Hsrc]; · iexact Hsrc
      isplitr; · iexact Hy1
      isplitl [Hcopy] <;> iassumption
    iexact HO
  iintro ⟨⟨Hcopy, Hsnd, Hfly1⟩, HO⟩
  iapply (seq_step c (stepB (ringNames c) 0))
  iapply (stepB_step I K κs c 0 (by omega) _ hl0) $$ [Hrow Hout Hoc Hkit Hw HO]
  · isplitr; · iexact HR
    isplitl [Hrow Hout Hoc Hkit]
    · isplitl [Hrow]; · iexact Hrow
      isplitl [Hout]; · iexact Hout
      isplitl [Hoc] <;> iassumption
    isplitl [Hw] <;> iassumption
  iintro ⟨⟨Hrow, Hout, Hoc, Hkit⟩, ⟨Hw, HO⟩⟩
  iapply (seq_step c (sentB 0))
  iapply (sentB_step I K κs c 0 (by omega) _ hl0) $$ [Hsnd Hfly HO]
  · isplitr; · iexact HR
    isplitl [Hsnd Hfly]
    · isplitl [Hsnd] <;> iassumption
    iexact HO
  iintro ⟨⟨Hsnd, Hsrc0⟩, HO⟩
  iapply (seq_step c (sentB 1))
  iapply (sentB_step I K κs c 1 (by omega) _ hl0) $$ [Hsnd Hfly1 HO]
  · isplitr; · iexact HR
    isplitl [Hsnd Hfly1]
    · isplitl [Hsnd] <;> iassumption
    iexact HO
  iintro ⟨⟨Hsnd, Hsrc⟩, HO⟩
  ihave Hgot := (got_join I c 0) $$ [Hsrc Hrow Hrch]
  · isplitl [Hsrc]; · iexact Hsrc
    isplitl [Hrow] <;> iassumption
  iapply (creditB_step I K κs c 0 (by omega) (tailL 1)) $$ [Hread Hgot HO]
  · isplitr; · iexact HR
    isplitl [Hread Hgot]
    · isplitl [Hread] <;> iassumption
    iexact HO
  iintro ⟨Hread, HO⟩
  iapply Hk
  isplitr [HO]
  · isplitr [Hread Hhalf Hsrc0]
    · isplitl [Hrecv]; · iexact Hrecv
      isplitl [Hcrd]; · iexact Hcrd
      isplitl [Hcopy]; · iexact Hcopy
      isplitl [Hsnd]; · iexact Hsnd
      isplitl [Hout]; · iexact Hout
      isplitl [Hoc]; · iexact Hoc
      isplitl [Hkit] <;> iassumption
    isplitl [Hread]; · iexact Hread
    iapply (half_join I c)
    isplitl [Hsrc0] <;> iassumption
  iexact HO

/-! ## The last iterations -/

/-- What a device holds when all tiles are in the result. -/
def doneSt : sProp 𝕄 :=
  iprop(two (recvSt c 7) ∗ two (crdSt c 5) ∗ two (sndSt c 7) ∗ two (outSt I c 8) ∗ two (got I c 5) ∗ two (got I c 6)
    ∗ two (fun d => slotAt c (stM d)) ∗ wOwn I c)

/-- What arrived, at two shares in both directions. -/
theorem got_rows (s : ℕ) : two (got I c s) ⊢ iprop(two (fun d => srcOwn I c d (s + 1)) ∗ two (fun d => rowsAt I c d s fullShare.right)
      ∗ two (fun d => reached ER (cell c (.recv d (pb s))) (s / 2 + 1))) := got_split I c s

/-- The end of a program. -/
theorem ret_step {Q : PUnit.{1} → sProp 𝕄} : Q ⟨⟩ ⊢ WP c (.ret ⟨⟩) Q := by
  unfold WP
  rw [wp_ret]
  iintro H
  imodintro
  iexact H

/-- The last iteration. -/
theorem last_step {Q : PUnit.{1} → sProp 𝕄} (rest : TP F) :
    iprop(recs I K κs ∗ iterSt I c 4 ∗ owing c (tailL 5))
      ⊢ iprop(((doneSt I c ∗ owing c exitL) -∗ WP c rest Q)
        -∗ WP c (lateB (ringNames c) >>= fun _ => lastB (ringNames c) >>= fun _ => outWaitB (ringNames c) 7 >>= fun _ => rest) Q) := by
  have ht : tailL 5 = .rcv false 6 :: .rcv true 6 :: exitL := rfl
  have hl : Above (2 * 4 + 4) (tailL 5) := above_tail 4 (by omega)
  have hl14 : Above (2 + 2 * 6) exitL := by decide
  have hl0 : Above 0 exitL := by decide
  rw [ht] at hl ⊢
  iintro ⟨#HR, Hit, HO⟩ Hk
  iapply (seq_step c (lateB (ringNames c)))
  unfold lateB
  iapply (main_step I K κs c 4 (by omega) exitL hl (.ret ⟨⟩)) $$ [Hit HO]
  · isplitr; · iexact HR
    isplitl [Hit] <;> iassumption
  unfold iterSt
  iintro ⟨⟨Hrecv, Hcrd, -, Hsnd, Hout, Hoc, Hkit, Hw⟩, Hgot5, HO⟩
  iapply (ret_step c)
  iapply (seq_step c (lastB (ringNames c)))
  iapply (seq_step c (recvB 6))
  iapply (recvB_step I K κs c 6 (by omega) exitL hl14) $$ [Hrecv HO]
  · isplitr; · iexact HR
    isplitl [Hrecv] <;> iassumption
  iintro ⟨⟨Hrecv, Hgot⟩, HO⟩
  ihave Hgot := (got_split I c 6) $$ Hgot
  icases Hgot with ⟨Hsrc, Hrow, Hrch⟩
  iapply (stepB_step I K κs c 6 (by omega) exitL hl0) $$ [Hrow Hout Hoc Hkit Hw HO]
  · isplitr; · iexact HR
    isplitl [Hrow Hout Hoc Hkit]
    · isplitl [Hrow]; · iexact Hrow
      isplitl [Hout]; · iexact Hout
      isplitl [Hoc] <;> iassumption
    isplitl [Hw] <;> iassumption
  iintro ⟨⟨Hrow, Hout, Hoc, -⟩, ⟨Hw, HO⟩⟩
  ihave Hgot := (got_join I c 6) $$ [Hsrc Hrow Hrch]
  · isplitl [Hsrc]; · iexact Hsrc
    isplitl [Hrow] <;> iassumption
  iapply (seq_step c (outWaitB (ringNames c) 7))
  iapply (outWaitB_step I K κs c 7 (by omega) exitL hl0) $$ [Hout Hoc HO]
  · isplitr; · iexact HR
    isplitl [Hout Hoc]
    · isplitl [Hout] <;> iassumption
    iexact HO
  iintro ⟨⟨Hout, Hst⟩, HO⟩
  iapply Hk
  isplitr [HO]
  · unfold doneSt
    isplitl [Hrecv]; · iexact Hrecv
    isplitl [Hcrd]; · iexact Hcrd
    isplitl [Hsnd]; · iexact Hsnd
    isplitl [Hout]; · iexact Hout
    isplitl [Hgot5]; · iexact Hgot5
    isplitl [Hgot]; · iexact Hgot
    isplitl [Hst] <;> iassumption
  iexact HO

/-! ## Entering and leaving -/

/-- Signals to both neighbours on `k`, and a wait for theirs. -/
theorem meet_step {Q : PUnit.{1} → sProp 𝕄} (k : CK) (sem : Sem sig) (e : Bool → Ent) (hk : ∀ d, (e d).kind = k) (hs : ksem k = .reg sem)
    (hd : kDuties k 0 = {0, 1}) (ha : kAmount k = 1) (hn : ∀ d, (e d).tgt c = up d c) (P : Bool → sProp 𝕄)
    (hP : ∀ d : Bool, P d ⊢ kPay I (up d c) k 0 d.toNat) (l : List Ent) (hl : Above (kLev k 0) l) :
    iprop(recs I K κs ∗ (two (fun d => dutyTok ER (cell (up d c) k) 0 d.toNat) ∗ two P ∗ atPos ER (cell c k) 0 ∅ 0 ∗ cred (tallyAt (cell c k) 0 2))
        ∗ owing c (e false :: e true :: l))
      ⊢ iprop((((bigSep ({0, 1} : Finset ℕ) (kPay I c k 0) ∗ atPos ER (cell c k) 1 ∅ 0) ∗ owing c l) -∗ Q ⟨⟩)
        -∗ WP c (semSignalWord (up false c) sem 1#32 >>= fun _ => semSignalWord (up true c) sem 1#32 >>= fun _ => semWaitWord sem 2#32) Q) := by
  have hsig : ∀ d l, ∀ Q : PUnit.{1} → sProp 𝕄, iprop(recs I K κs ∗ (dutyTok ER (cell (up d c) k) 0 d.toNat ∗ P d) ∗ owing c (e d :: l))
      ⊢ iprop((owing c l -∗ Q ⟨⟩) -∗ WP c (semSignalWord (up d c) sem 1#32) Q) := fun d l Q => by
    have h := signal_one I K κs c (Q := Q) (e d) sem (by rw [hk]; exact hs) (up d c) (hn d).symm d.toNat
      (by rw [hk, hd]; cases d <;> decide) (by rw [hk]; exact ha) l
    rw [hk] at h
    iintro ⟨HR, ⟨Ht, HP⟩, HO⟩ Hk
    iapply h $$ [HR Ht HP HO]
    · isplitl [HR]; · iexact HR
      isplitl [Ht]; · iexact Ht
      isplitl [HP]; · iapply (hP d); iexact HP
      iexact HO
    iexact Hk
  have hw := wait_round I K κs c (Q := Q) (w := .semWait sem 2) k 0 0 2 l (by rw [hs]; exact fun Q => wpE_semWait_eq 𝒱₀ (c : Thread nD τ) none Set.univ Q)
    (by rw [hd, ha]; rfl) (by omega) hl
  rw [hd] at hw
  rw [two_eq, two_eq]
  iintro ⟨#HR, ⟨⟨Ht, Ht'⟩, ⟨HP, HP'⟩, Hat, Hc⟩, HO⟩ Hk
  iapply (seq_step c (semSignalWord (up false c) sem 1#32))
  iapply (hsig false (e true :: l) _) $$ [Ht HP HO]
  · isplitr; · iexact HR
    isplitr [HO]
    · isplitl [Ht] <;> iassumption
    iexact HO
  iintro HO
  iapply (seq_step c (semSignalWord (up true c) sem 1#32))
  iapply (hsig true l _) $$ [Ht' HP' HO]
  · isplitr; · iexact HR
    isplitr [HO]
    · isplitl [Ht'] <;> iassumption
    iexact HO
  iintro HO
  iapply hw $$ [Hat Hc HO]
  · isplitr; · iexact HR
    isplitl [Hat]; · iexact Hat
    isplitl [Hc] <;> iassumption
  iintro ⟨Hat, -, Hp, HO⟩
  iapply Hk
  isplitr [HO]
  · isplitl [Hp] <;> iassumption
  iexact HO

/-- What the barrier at the entry hands over. -/
theorem bar_pays : bigSep ({0, 1} : Finset ℕ) (kPay I c .bar 0) = two (fun d => readyTwo (dn d c) d 0) := by
  rw [two_eq, bigSep_insert (by decide), bigSep_singleton]
  rfl

/-- A reader whose slots are free can say so. -/
theorem readSt_two (d : Bool) : readSt c 0 d ⊢ iprop(readSt c 0 d ∗ readyTwo (F := F) c d 0) := by
  unfold readSt
  iintro ⟨H1, H2, #H3, H4⟩
  isplitl [H1 H2 H4]
  · isplitl [H1]; · iexact H1
    isplitl [H2]; · iexact H2
    isplitr; · iexact H3
    iexact H4
  iexact H3

/-! ## The whole body -/

/-- What a device starts with. -/
def startSt : sProp 𝕄 :=
  iprop((two (recvSt c 0) ∗ two (crdSt c 0) ∗ two (copySt c 0) ∗ two (sndSt c 0) ∗ two (outSt I c 0) ∗ two (kitSt c 0) ∗ wOwn I c
      ∗ two (halfOwn I c fullShare) ∗ two (fun d => slotAt c (stM d)) ∗ two (slots0 c))
    ∗ (two (fun d => dutyTok ER (cell (up d c) .bar) 0 d.toNat) ∗ atPos ER (cell c .bar) 0 ∅ 0 ∗ cred (tallyAt (cell c .bar) 0 2))
    ∗ (two (fun d => dutyTok ER (cell (up d c) .exit) 0 d.toNat) ∗ atPos ER (cell c .exit) 0 ∅ 0 ∗ cred (tallyAt (cell c .exit) 0 2)))

/-- What a device ends with. -/
def endSt : sProp 𝕄 :=
  iprop(doneSt I c ∗ two (halfOwn I c fullShare) ∗ atPos ER (cell c .bar) 1 ∅ 0 ∗ atPos ER (cell c .exit) 1 ∅ 0)

/-- All slots, freed for their first use. -/
theorem open_all : iprop(recs I K κs ∗ two (slots0 c)) ⊢ iprop(|={Set.univ}=> two (readSt c 0)) := by
  have h : iprop(two (fun _ : Bool => recs I K κs) ∗ two (slots0 c)) ⊢ iprop(|={Set.univ}=> two (readSt c 0)) := by
    rw [← two_sep]
    exact two_fupd fun d => open_slots I K κs c d
  iintro ⟨#HR, Hs⟩
  iapply h
  isplitr
  · rw [two_eq]; isplitr <;> iexact HR
  iexact Hs

/-- The whole body, from what it starts from to what it ends with. -/
theorem body_run {Q : PUnit.{1} → sProp 𝕄} :
    iprop(recs I K κs ∗ startSt I c ∗ owing c script)
      ⊢ iprop(((endSt I c ∗ owing c []) -∗ Q ⟨⟩) -∗ WP c (bodyB (ringNames c)) Q) := by
  have hs : script = .bar false :: .bar true :: .rcv false 0 :: .rcv true 0 :: tailL 0 := rfl
  have hl : Above 1 (.rcv false 0 :: .rcv true 0 :: tailL 0) := by decide
  have hin := fun Q => meet_step I K κs c (Q := Q) .bar barS .bar (fun _ => rfl) rfl rfl rfl (fun _ => rfl) (fun d => readyTwo c d 0)
    (fun d => Entails.of_eq (by
      show _ = readyTwo (dn (decide (d.toNat = 1)) (up d c)) (decide (d.toNat = 1)) 0
      cases d
      · rw [show decide (Bool.toNat false = 1) = false from rfl, dn_up]
      · rw [show decide (Bool.toNat true = 1) = true from rfl, dn_up])) (.rcv false 0 :: .rcv true 0 :: tailL 0) hl
  have hout := fun Q => meet_step I K κs c (Q := Q) .exit exitS .ext (fun _ => rfl) rfl rfl rfl (fun _ => rfl) (fun _ => iprop(emp))
    (fun d => Entails.refl _) [] (by decide)
  rw [hs]
  unfold startSt bodyB enterB exitB
  iintro ⟨#HR, ⟨⟨Hrecv, Hcrd, Hcopy, Hsnd, Hout, Hkit, Hw, Hhalf, Hst, Hs0⟩, ⟨Hbt, Hba, Hbc⟩, ⟨Het, Hea, Hec⟩⟩, HO⟩ Hk
  imod (open_all I K κs c) $$ [Hs0] with Hread
  · isplitr; · iexact HR
    iexact Hs0
  ihave Hread := (two_mono (readSt_two (F := F) c)) $$ Hread
  ihave Hread := (Entails.of_eq (two_sep (readSt c 0) (fun d => readyTwo (F := F) c d 0))) $$ Hread
  icases Hread with ⟨Hread, Hy⟩
  iapply (seq_step c (semSignalWord (up false c) barS 1#32 >>= fun _ => semSignalWord (up true c) barS 1#32 >>= fun _ => semWaitWord barS 2#32))
  iapply (hin _) $$ [Hbt Hy Hba Hbc HO]
  · isplitr; · iexact HR
    isplitr [HO]
    · isplitl [Hbt]; · iexact Hbt
      isplitl [Hy]; · iexact Hy
      isplitl [Hba] <;> iassumption
    iexact HO
  iintro ⟨⟨Hp, Hba⟩, HO⟩
  ihave Hp := (Entails.of_eq (bar_pays I c)) $$ Hp
  iapply (first_step I K κs c) $$ [Hrecv Hcrd Hcopy Hsnd Hout Hkit Hw Hhalf Hst Hread Hp HO]
  · isplitr; · iexact HR
    isplitr [HO]
    · isplitr [Hp]
      · unfold readySt
        isplitl [Hrecv]; · iexact Hrecv
        isplitl [Hcrd]; · iexact Hcrd
        isplitl [Hcopy]; · iexact Hcopy
        isplitl [Hsnd]; · iexact Hsnd
        isplitl [Hout]; · iexact Hout
        isplitl [Hkit]; · iexact Hkit
        isplitl [Hw]; · iexact Hw
        isplitl [Hhalf]; · iexact Hhalf
        isplitl [Hst] <;> iassumption
      iexact Hp
    iexact HO
  iintro ⟨⟨Hit, Hread, Hhalf⟩, HO⟩
  iapply (seq_step c (midB (ringNames c) 1))
  iapply (mid_step I K κs c 0 (by omega)) $$ [Hit Hread HO]
  · isplitr; · iexact HR
    isplitr [HO]
    · isplitl [Hit] <;> iassumption
    iexact HO
  iintro ⟨⟨Hit, Hread⟩, HO⟩
  iapply (seq_step c (midB (ringNames c) 2))
  iapply (mid_step I K κs c 1 (by omega)) $$ [Hit Hread HO]
  · isplitr; · iexact HR
    isplitr [HO]
    · isplitl [Hit] <;> iassumption
    iexact HO
  iintro ⟨⟨Hit, Hread⟩, HO⟩
  iapply (seq_step c (midB (ringNames c) 3))
  iapply (mid_step I K κs c 2 (by omega)) $$ [Hit Hread HO]
  · isplitr; · iexact HR
    isplitr [HO]
    · isplitl [Hit] <;> iassumption
    iexact HO
  iintro ⟨⟨Hit, Hread⟩, HO⟩
  iapply (seq_step c (midB (ringNames c) 4))
  iapply (mid_step I K κs c 3 (by omega)) $$ [Hit Hread HO]
  · isplitr; · iexact HR
    isplitr [HO]
    · isplitl [Hit] <;> iassumption
    iexact HO
  iintro ⟨⟨Hit, -⟩, HO⟩
  iapply (last_step I K κs c) $$ [Hit HO]
  · isplitr; · iexact HR
    isplitl [Hit] <;> iassumption
  iintro ⟨Hdone, HO⟩
  iapply (hout _) $$ [Het Hea Hec HO]
  · isplitr; · iexact HR
    isplitr [HO]
    · isplitl [Het]; · iexact Het
      isplitr [Hea Hec]
      · rw [two_eq]; isplitr <;> iempintro
      isplitl [Hea] <;> iassumption
    iexact HO
  iintro ⟨⟨-, Hea⟩, HO⟩
  iapply Hk
  isplitr [HO]
  · unfold endSt
    isplitl [Hdone]; · iexact Hdone
    isplitl [Hhalf]; · iexact Hhalf
    isplitl [Hba] <;> iassumption
  iexact HO

end Cert.KernelIdealRing

end
-- ==== Proof.KernelIdealRing.Buffers.lean ====
/-
Buffers divided into the parts the protocol hands around, and put together again.
-/
module

public import proofs.«01_k».proof.Proof.KernelIdealRing.Whole
public import Idealize.SL.BI.BigOpNat

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (c : Dev nD)

/-! ## A memref and its slices, at any contents -/

section Split
variable {T : Type} [Fintype T] [DecidableEq T] {sh : Shape} {e : EltTy} {sp : Space} (m : Memref sig .tc sp sh e)
  (r : T → Rect sh) (hr : ∀ t a, (r t).stride a = 1) (hd : ∀ t t', t ≠ t' → Disjoint (r t).set (r t').set)
  (hcov : (Finset.univ : Finset T).biUnion (fun t => (r t).set) = Finset.univ)

/-- A slot holds something. -/
theorem slot_owned : slotAt (F := F) c m ⊢ iprop(∃ X : sh.Idx → Elt F e, owns (c : Thread nD τ) m fullShare X) := by
  unfold slotAt Release.slot owns
  iintro ⟨%f, H⟩
  iexists (m.view.read (Elt F) f)
  iexists f
  isplitr
  · ipureintro; rfl
  iexact H

/-- Whatever a slot holds, it is a slot. -/
theorem owned_slot (X : sh.Idx → Elt F e) : owns (c : Thread nD τ) m fullShare X ⊢ slotAt (F := F) c m := by
  unfold slotAt Release.slot owns
  iintro ⟨%f, -, H⟩
  iexists f
  iexact H

include hd hcov in
/-- A memref's slot is its parts' slots, where the parts are apart and cover it. -/
theorem slots_part : slotAt (F := F) c m ⊢ bigSep Finset.univ fun t => slotAt (F := F) c (m.slice (r t) (hr t)) := by
  refine (slot_owned c m).trans ?_
  iintro ⟨%X, H⟩
  ihave H := (owns_rects (c : Thread nD τ) m fullShare r hr hd hcov X) $$ H
  have hm : (bigSep Finset.univ fun t => owns (c : Thread nD τ) (m.slice (r t) (hr t)) fullShare (fun j => X ((r t).emb j)))
      ⊢ bigSep Finset.univ fun t => slotAt (F := F) c (m.slice (r t) (hr t)) := bigSep_mono fun t _ => owned_slot c _ _
  iapply hm $$ H

include hd hcov in
/-- The parts' slots make up the memref's. -/
theorem slots_whole : (bigSep Finset.univ fun t => slotAt (F := F) c (m.slice (r t) (hr t))) ⊢ slotAt (F := F) c m := by
  have hset : m.view.set = (Finset.univ : Finset T).biUnion fun t => (m.slice (r t) (hr t)).view.set := by
    refine Finset.Subset.antisymm (fun i hi => ?_) (Finset.biUnion_subset.mpr fun t _ => View.set_slice_subset _ _)
    obtain ⟨x, -, rfl⟩ := Finset.mem_map.mp (show i ∈ Finset.univ.map m.view.emb from hi)
    obtain ⟨t, ht, hx⟩ := Finset.mem_biUnion.mp (hcov.symm ▸ Finset.mem_univ x)
    refine Finset.mem_biUnion.mpr ⟨t, ht, ?_⟩
    rw [show (m.slice (r t) (hr t)).view.set = (r t).set.map m.view.emb from View.set_slice _ _]
    exact Finset.mem_map_of_mem _ hx
  have hdis : ∀ t ∈ (Finset.univ : Finset T), ∀ t' ∈ (Finset.univ : Finset T), t ≠ t' →
      Disjoint (m.slice (r t) (hr t)).view.set (m.slice (r t') (hr t')).view.set := fun t _ t' _ h => by
    rw [show (m.slice (r t) (hr t)).view.set = (r t).set.map m.view.emb from View.set_slice _ _,
      show (m.slice (r t') (hr t')).view.set = (r t').set.map m.view.emb from View.set_slice _ _]
    exact (Finset.disjoint_map _).mpr (hd t t' h)
  unfold slotAt Release.slot
  refine (bigSep_exists_pi Finset.univ (fun t (f : Buf (Elt F) (m.view.loc (c : Thread nD τ))) =>
    (m.view.loc (c : Thread nD τ) ↦[(m.slice (r t) (hr t)).view.set]{fullShare} f : sProp 𝕄))).trans ?_
  iintro ⟨%fs, H⟩
  ihave H := (pointsTo_biUnion_join Finset.univ (fun t => (m.slice (r t) (hr t)).view.set) fs (Classical.choice inferInstance) hdis) $$ H
  rw [hset]
  icases H with ⟨%g, -, H⟩
  iexists g
  iexact H
end Split

/-! ## The rectangles -/

/-- The two receive slots are apart. -/
theorem slot_apart (b b' : Bool) (h : b ≠ b') : Disjoint (slotRect b).set (slotRect b').set :=
  Rect.unit_disjoint 0 (by cases b <;> cases b' <;> first | exact absurd rfl h | decide)
/-- They cover the buffer. -/
theorem slot_cover : (Finset.univ : Finset Bool).biUnion (fun b => (slotRect b).set) = Finset.univ := by
  ext i
  simp only [Finset.mem_biUnion, Finset.mem_univ, true_and, iff_true, Rect.mem_set_unit]
  refine ⟨decide ((i 0).val = 1), fun a => ?_⟩
  have h0 : (i 0).val < 2 := (i 0).isLt
  have h1 : (i 1).val < 512 := (i 1).isLt
  have h2 : (i 2).val < 8192 := (i 2).isLt
  fin_cases a
  · rcases (by omega : (i 0).val = 0 ∨ (i 0).val = 1) with h | h <;> rw [h] <;> simp [h] <;> decide
  · exact ⟨Nat.zero_le _, by simpa using h1⟩
  · exact ⟨Nat.zero_le _, by simpa using h2⟩

/-- The two stages are apart. -/
theorem stage_apart (b b' : Bool) (h : b ≠ b') : Disjoint (stageRect b).set (stageRect b').set :=
  Rect.unit_disjoint 0 (by cases b <;> cases b' <;> first | exact absurd rfl h | decide)
/-- They cover the buffer. -/
theorem stage_cover : (Finset.univ : Finset Bool).biUnion (fun b => (stageRect b).set) = Finset.univ := by
  ext i
  simp only [Finset.mem_biUnion, Finset.mem_univ, true_and, iff_true, Rect.mem_set_unit]
  refine ⟨decide ((i 0).val = 1), fun a => ?_⟩
  have h0 : (i 0).val < 2 := (i 0).isLt
  have h1 : (i 1).val < 512 := (i 1).isLt
  have h2 : (i 2).val < 512 := (i 2).isLt
  fin_cases a
  · rcases (by omega : (i 0).val = 0 ∨ (i 0).val = 1) with h | h <;> rw [h] <;> simp [h] <;> decide
  · exact ⟨Nat.zero_le _, by simpa using h1⟩
  · exact ⟨Nat.zero_le _, by simpa using h2⟩

/-- The two halves of the rows are apart. -/
theorem half_apart (b b' : Bool) (h : b ≠ b') : Disjoint (halfRect b).set (halfRect b').set :=
  Rect.unit_disjoint 0 (by cases b <;> cases b' <;> first | exact absurd rfl h | decide)
/-- They cover the rows. -/
theorem half_cover : (Finset.univ : Finset Bool).biUnion (fun b => (halfRect b).set) = Finset.univ := by
  ext i
  simp only [Finset.mem_biUnion, Finset.mem_univ, true_and, iff_true, Rect.mem_set_unit]
  refine ⟨decide (512 ≤ (i 0).val), fun a => ?_⟩
  have h0 : (i 0).val < 1024 := (i 0).isLt
  have h1 : (i 1).val < 8192 := (i 1).isLt
  fin_cases a
  · show 512 * (decide (512 ≤ (i 0).val)).toNat ≤ (i 0).val ∧ (i 0).val < 512 * (decide (512 ≤ (i 0).val)).toNat + 512
    by_cases h : 512 ≤ (i 0).val <;> simp [h] <;> omega
  · exact ⟨Nat.zero_le _, by simpa using h1⟩

/-- The sixteen blocks of the result, by the rows they are computed from. -/
abbrev blkRect (p : Bool × Dev nD) : Rect S8192x512 := outRect (blkOff p.2 p.1) (inb_blk p.2 p.1)

/-- Two blocks of the result are apart. -/
theorem blk_apart (p p' : Bool × Dev nD) (h : p ≠ p') : Disjoint (blkRect p).set (blkRect p').set := by
  obtain ⟨d, o⟩ := p
  obtain ⟨d', o'⟩ := p'
  refine Rect.unit_disjoint 0 ?_
  show 1024 * o.val + 512 * d.toNat + 512 ≤ 1024 * o'.val + 512 * d'.toNat ∨ 1024 * o'.val + 512 * d'.toNat + 512 ≤ 1024 * o.val + 512 * d.toNat
  have hne : o.val ≠ o'.val ∨ d.toNat ≠ d'.toNat := by
    by_contra hc
    push Not at hc
    exact h (Prod.ext (by revert hc; cases d <;> cases d' <;> simp) (Fin.ext hc.1))
  have := Bool.toNat_le d
  have := Bool.toNat_le d'
  omega

/-- Which rows an entry of the result is computed from, and where in its tile it lies. -/
def rowHalf (i : S8192x512.Idx) : Bool × Dev nD :=
  (decide (512 ≤ (i 0).val % 1024), ⟨(i 0).val / 1024, by have h : (i 0).val < 8192 := (i 0).isLt; show _ < 8; omega⟩)
/-- The entry's place in its tile. -/
def rowAt (i : S8192x512.Idx) : S512x512.Idx
  | ⟨0, _⟩ => ⟨(i 0).val % 512, Nat.mod_lt _ (by decide)⟩
  | ⟨1, _⟩ => ⟨(i 1).val, (i 1).isLt⟩

/-- The blocks cover the result. -/
theorem blk_cover : (Finset.univ : Finset (Bool × Dev nD)).biUnion (fun p => (blkRect p).set) = Finset.univ := by
  ext i
  simp only [Finset.mem_biUnion, Finset.mem_univ, true_and, iff_true, Rect.mem_set_unit]
  refine ⟨rowHalf i, fun a => ?_⟩
  have h0 : (i 0).val < 8192 := (i 0).isLt
  have h1 : (i 1).val < 512 := (i 1).isLt
  fin_cases a
  · show 1024 * ((i 0).val / 1024) + 512 * (decide (512 ≤ (i 0).val % 1024)).toNat ≤ (i 0).val
      ∧ (i 0).val < 1024 * ((i 0).val / 1024) + 512 * (decide (512 ≤ (i 0).val % 1024)).toNat + 512
    by_cases h : 512 ≤ (i 0).val % 1024 <;> simp [h] <;> omega
  · exact ⟨Nat.zero_le _, by simpa using h1⟩

/-- An entry of a block is computed from that block's rows. -/
theorem rowHalf_blk (p : Bool × Dev nD) (j : S512x512.Idx) : rowHalf ((blkRect p).emb j) = p := by
  obtain ⟨d, o⟩ := p
  have h0 : (j 0).val < 512 := (j 0).isLt
  have e : ((blkRect (d, o)).emb j 0).val = 1024 * o.val + 512 * d.toNat + (j 0).val := by
    rw [Rect.emb_apply]; show _ + 1 * (j 0).val = _; rw [Nat.one_mul]; rfl
  have := Bool.toNat_le d
  refine Prod.ext ?_ (Fin.ext ?_)
  · show decide (512 ≤ ((blkRect (d, o)).emb j 0).val % 1024) = d
    rw [e]
    cases d <;> simp <;> omega
  · show ((blkRect (d, o)).emb j 0).val / 1024 = o.val
    rw [e]; omega

/-- An entry of a block lies in the tile where it lies in the block. -/
theorem rowAt_blk (p : Bool × Dev nD) (j : S512x512.Idx) : rowAt ((blkRect p).emb j) = j := by
  obtain ⟨d, o⟩ := p
  have h0 : (j 0).val < 512 := (j 0).isLt
  have e : ((blkRect (d, o)).emb j 0).val = 1024 * o.val + 512 * d.toNat + (j 0).val := by
    rw [Rect.emb_apply]; show _ + 1 * (j 0).val = _; rw [Nat.one_mul]; rfl
  have e1 : ((blkRect (d, o)).emb j 1).val = (j 1).val := by
    rw [Rect.emb_apply]; show 0 + 1 * (j 1).val = _; omega
  funext a
  fin_cases a
  · refine Fin.ext ?_
    show ((blkRect (d, o)).emb j 0).val % 512 = (j 0).val
    rw [e]; cases d <;> simp <;> omega
  · exact Fin.ext e1

/-! ## The buffers -/

/-- A whole buffer's slot is the buffer with some contents. -/
theorem slot_whole (b : Ref sig .tc) : slotAt (F := F) c (Memref.whole b) = iprop(∃ f : Buf (Elt F) ((c : Thread nD τ).loc b), ((c : Thread nD τ).loc b) ↦{fullShare} f) := by
  unfold slotAt Release.slot
  simp only [Memref.view_whole, View.set_whole]

/-- A receive slot as a part of its buffer. -/
theorem slotSt_slice (d b : Bool) : slotSt (F := F) (c, d, b) = slotAt c ((commM d).slice (slotRect b) (fun _ => rfl)) := by
  unfold slotSt slotAt Release.slot
  rw [View.set_reshape]

/-- A receive buffer into its two slots. -/
theorem comm_part (d : Bool) : slotAt (F := F) c (commM d) ⊢ two fun b => slotSt (c, d, b) := by
  unfold two
  simp only [slotSt_slice]
  exact slots_part c (commM d) slotRect (fun _ _ => rfl) slot_apart slot_cover
/-- The two slots into the buffer. -/
theorem comm_whole (d : Bool) : (two fun b => slotSt (F := F) (c, d, b)) ⊢ slotAt c (commM d) := by
  unfold two
  simp only [slotSt_slice]
  exact slots_whole c (commM d) slotRect (fun _ _ => rfl) slot_apart slot_cover

/-- A stage as a part of its buffer. -/
theorem stM_slice (d : Bool) : slotAt (F := F) c (stM d) = slotAt c (stgM.slice (stageRect d) (fun _ => rfl)) := by
  unfold slotAt Release.slot
  rw [View.set_reshape]

/-- The stage buffer into its two stages. -/
theorem stage_part : slotAt (F := F) c stgM ⊢ two fun d => slotAt c (stM d) := by
  unfold two
  simp only [stM_slice]
  exact slots_part c stgM stageRect (fun _ _ => rfl) stage_apart stage_cover
/-- The two stages into the buffer. -/
theorem stage_whole : (two fun d => slotAt (F := F) c (stM d)) ⊢ slotAt c stgM := by
  unfold two
  simp only [stM_slice]
  exact slots_whole c stgM stageRect (fun _ _ => rfl) stage_apart stage_cover

/-- The device's rows into their halves. -/
theorem x_part : owns (c : Thread nD τ) xM fullShare (I.x c) ⊢ two (halfOwn I c fullShare) := by
  unfold two halfOwn
  exact owns_rects (c : Thread nD τ) xM fullShare halfRect (fun _ _ => rfl) half_apart half_cover (I.x c)
/-- The halves into the device's rows. -/
theorem x_whole : two (halfOwn I c fullShare) ⊢ owns (c : Thread nD τ) xM fullShare (I.x c) := by
  unfold two halfOwn
  exact owns_of_rects (c : Thread nD τ) xM fullShare halfRect (fun _ _ => rfl) half_apart half_cover (I.x c)

/-- Going once around the ring meets every device once. -/
theorem org_inj : ∀ (d : Bool) (c : Dev nD), ∀ s ∈ Finset.range 8, ∀ s' ∈ Finset.range 8, org d c s = org d c s' → s = s' := by decide
/-- In eight steps rows of every device are met. -/
theorem org_all : ∀ (d : Bool) (c : Dev nD), (Finset.range 8).image (org d c) = Finset.univ := by decide

/-- Something for each device, in the order in which a direction meets them. -/
theorem around (d : Bool) (Φ : Dev nD → sProp 𝕄) : bigSep Finset.univ Φ = bigSep (Finset.range 8) fun s => Φ (org d c s) := by
  rw [← org_all d c, bigSep_image_of_injOn (fun s hs s' hs' h => org_inj d c s hs s' hs' h)]

/-- The whole result of device `c`. -/
def outFull : FVec F S8192x512 .f32 := fun i => outv I c (rowHalf i).2 (rowHalf i).1 (rowAt i)

/-- The result's buffer into the sixteen blocks, in the order of the steps. -/
theorem out_part : slotAt (F := F) c resM ⊢ two fun d => bigSep (Finset.range 8) fun s => slotAt c (blkM (org d c s) d) := by
  refine (slots_part c resM blkRect (fun _ _ => rfl) blk_apart blk_cover).trans ?_
  rw [bigSep_univ_prod]
  exact bigSep_mono fun d _ => Entails.of_eq (around c d fun o => slotAt c (blkM o d))

/-- Blocks that hold their parts of one array make up the array. -/
theorem out_join (X : S8192x512.Idx → Elt F .f32) :
    (bigSep Finset.univ fun p : Bool × Dev nD => owns (c : Thread nD τ) (blkM p.2 p.1) fullShare (fun j => X ((blkRect p).emb j)))
      ⊢ (owns (c : Thread nD τ) resM fullShare X : sProp 𝕄) :=
  owns_of_rects (c : Thread nD τ) resM fullShare blkRect (fun _ _ => rfl) blk_apart blk_cover X

/-- The finished blocks make up the finished result. -/
theorem out_whole : (two fun d => bigSep (Finset.range 8) fun s => doneBlk I c d s) ⊢ owns (c : Thread nD τ) resM fullShare (outFull I c) := by
  have h := out_join (F := F) c (outFull I c)
  have e : (bigSep Finset.univ fun p : Bool × Dev nD => (owns (c : Thread nD τ) (blkM p.2 p.1) fullShare (fun j => outFull I c ((blkRect p).emb j)) : sProp 𝕄))
      = two fun d => bigSep (Finset.range 8) fun s => doneBlk I c d s := by
    rw [bigSep_univ_prod]
    unfold two
    refine bigSep_congr fun d _ => ?_
    rw [around c d]
    refine bigSep_congr fun s _ => ?_
    unfold doneBlk
    refine congrArg (owns (c : Thread nD τ) (blkM (org d c s) d) fullShare) (funext fun j => ?_)
    unfold outFull
    rw [rowHalf_blk (d, org d c s) j, rowAt_blk (d, org d c s) j]
  rw [e] at h
  exact h

end Cert.KernelIdealRing

end
-- ==== Proof.KernelIdealRing.Setup.lean ====
/-
What each device holds at the start: its positions, the tokens of the payments it makes, its credits.
-/
module

public import proofs.«01_k».proof.Proof.KernelIdealRing.Buffers
public import Idealize.SL.BI.BigOpNat
public import Idealize.ShloMosaic.Lib.Ring

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × CK → ℕ) (κs : Key → ℕ) (c : Dev nD)

/-! ## The payments of one direction -/

/-- What a device pays in one direction: a barrier and an exit signal, five credits, seven copies received and sent,
    eight tiles of the result. -/
abbrev PK : Type := (Unit ⊕ Unit) ⊕ Fin 5 ⊕ Fin 7 ⊕ Fin 7 ⊕ Fin 8

/-- The payment's cell, round and number. -/
def payAt (c : Dev nD) (d : Bool) : PK → (Dev nD × CK) × ℕ × ℕ
  | .inl (.inl _) => ((up d c, .bar), 0, d.toNat)
  | .inl (.inr _) => ((up d c, .exit), 0, d.toNat)
  | .inr (.inl j) => ((up d c, .credit d), 0, j.val)
  | .inr (.inr (.inl s)) => ((dn d c, .recv d (pb s)), s.val / 2, 0)
  | .inr (.inr (.inr (.inl s))) => ((c, .send d (pb s)), s.val / 2, 0)
  | .inr (.inr (.inr (.inr s))) => ((c, .out d), s.val, 0)

/-- Who pays it. -/
def payer : (Dev nD × CK) × ℕ × ℕ → Dev nD × Bool × PK
  | ((n, .bar), _, j) => (dn (decide (j = 1)) n, decide (j = 1), .inl (.inl ()))
  | ((n, .exit), _, j) => (dn (decide (j = 1)) n, decide (j = 1), .inl (.inr ()))
  | ((n, .credit d), _, j) => (dn d n, d, .inr (.inl (Fin.ofNat 5 j)))
  | ((n, .recv d b), r, _) => (up d n, d, .inr (.inr (.inl (Fin.ofNat 7 (copyNo b r)))))
  | ((n, .send d b), r, _) => (n, d, .inr (.inr (.inr (.inl (Fin.ofNat 7 (copyNo b r))))))
  | ((n, .out d), r, _) => (n, d, .inr (.inr (.inr (.inr (Fin.ofNat 8 r)))))

/-- A number read back from itself. -/
theorem ofNat_val {n : ℕ} [NeZero n] (s : Fin n) : Fin.ofNat n s.val = s := Fin.ext (Nat.mod_eq_of_lt s.isLt)
/-- A direction read back from its number. -/
theorem dir_of (d : Bool) : decide (d.toNat = 1) = d := by cases d <;> rfl

/-- The payer of a payment is read back from the payment. -/
theorem payer_payAt (x : Dev nD × Bool × PK) : payer (payAt x.1 x.2.1 x.2.2) = x := by
  obtain ⟨c, d, (_ | _) | j | s | s | s⟩ := x <;>
    simp only [payAt, payer, dir_of, dn_up, up_dn, copyNo_pb, ofNat_val]

/-- The token of a payment. -/
def tokAt (x : Dev nD × Bool × PK) : GSem nD τ sig × ℕ × ℕ :=
  (cell (payAt x.1 x.2.1 x.2.2).1.1 (payAt x.1 x.2.1 x.2.2).1.2, (payAt x.1 x.2.1 x.2.2).2)

/-- Different payments have different tokens. -/
theorem tokAt_injective : Function.Injective tokAt := by
  intro x y h
  have h1 := cell_injective (congrArg Prod.fst h : (fun ck : Dev nD × CK => cell ck.1 ck.2) (payAt x.1 x.2.1 x.2.2).1 = (fun ck : Dev nD × CK => cell ck.1 ck.2) (payAt y.1 y.2.1 y.2.2).1)
  have h2 := congrArg Prod.snd h
  rw [← payer_payAt x, ← payer_payAt y]
  exact congrArg payer (Prod.ext h1 h2)

/-- The tokens of all payments. -/
def ringToks : Finset (GSem nD τ sig × ℕ × ℕ) := Finset.univ.map ⟨tokAt, tokAt_injective⟩
/-- The cells of all devices. -/
def ringCells : Finset (GSem nD τ sig) := Finset.univ.map ⟨fun ck : Dev nD × CK => cell ck.1 ck.2, cell_injective⟩

/-- The tokens of device `c`'s payments in direction `d`. -/
def toksOf (d : Bool) : sProp 𝕄 :=
  iprop((dutyTok ER (cell (up d c) .bar) 0 d.toNat ∗ dutyTok ER (cell (up d c) .exit) 0 d.toNat)
    ∗ (bigSep (Finset.Ico 0 5) fun j => dutyTok ER (cell (up d c) (.credit d)) 0 j)
    ∗ (bigSep (Finset.Ico 0 7) fun s => dutyTok ER (cell (dn d c) (.recv d (pb s))) (s / 2) 0)
    ∗ (bigSep (Finset.Ico 0 7) fun s => dutyTok ER (cell c (.send d (pb s))) (s / 2) 0)
    ∗ (bigSep (Finset.Ico 0 8) fun s => dutyTok ER (cell c (.out d)) s 0))

/-- Something for each of `n` steps, by number. -/
theorem fin_Ico (n : ℕ) (Ψ : ℕ → sProp 𝕄) : (bigSep Finset.univ fun s : Fin n => Ψ s.val) = bigSep (Finset.Ico 0 n) Ψ := by
  rw [← Finset.range_eq_Ico]
  exact Ring.bigSep_fin_eq_range n _ Ψ fun _ _ => rfl

/-- Something for the one point. -/
theorem unit_one (Φ : Unit → sProp 𝕄) : bigSep Finset.univ Φ = Φ () := bigSep_singleton

/-- All tokens, each with the device that pays. -/
theorem ringToks_eq : (bigSep ringToks fun x => (dutyTok ER x.1 x.2.1 x.2.2 : sProp 𝕄)) = bigSep Finset.univ fun c : Dev nD => two (toksOf c) := by
  unfold ringToks two
  rw [bigSep_map, bigSep_univ_prod]
  refine bigSep_congr fun c _ => ?_
  rw [bigSep_univ_prod]
  refine bigSep_congr fun d _ => ?_
  unfold toksOf
  rw [bigSep_univ_sum, bigSep_univ_sum, bigSep_univ_sum, bigSep_univ_sum, bigSep_univ_sum]
  exact congrArg₂ BI.sep (congrArg₂ BI.sep (unit_one _) (unit_one _))
    (congrArg₂ BI.sep (fin_Ico 5 fun j => dutyTok ER (cell (up d c) (.credit d)) 0 j)
      (congrArg₂ BI.sep (fin_Ico 7 fun s => dutyTok ER (cell (dn d c) (.recv d (pb s))) (s / 2) 0)
        (congrArg₂ BI.sep (fin_Ico 7 fun s => dutyTok ER (cell c (.send d (pb s))) (s / 2) 0) (fin_Ico 8 fun s => dutyTok ER (cell c (.out d)) s 0))))

/-! ## The write tokens of the slots -/

/-- Which use of which slot copy `s` of a device writes. -/
def wtokAt (x : Dev nD × Bool × Fin 7) : Key × ℕ := ((dn x.2.1 x.1, x.2.1, pb x.2.2), x.2.2.val / 2)

/-- Different copies write different uses. -/
theorem wtokAt_injective : Function.Injective wtokAt := by
  have h : Function.LeftInverse (fun y : Key × ℕ => (up y.1.2.1 y.1.1, y.1.2.1, (Fin.ofNat 7 (copyNo y.1.2.2 y.2) : Fin 7))) wtokAt := by
    rintro ⟨c, d, s⟩
    simp only [wtokAt, up_dn, copyNo_pb, ofNat_val]
  exact h.injective

/-- The tokens of the slot uses that a device writes. -/
def wtoks (d : Bool) : sProp 𝕄 := bigSep (Finset.Ico 0 7) fun s => Release.writeTok ES ((dn d c, d, pb s) : Key) (s / 2 + 1)

/-- All tokens of slot uses, each with the device that writes. -/
theorem wtoks_intro : (bigSep ((Finset.univ : Finset Key) ×ˢ Finset.range 4) fun x => (Release.writeTok ES x.1 (x.2 + 1) : sProp 𝕄))
    ⊢ bigSep Finset.univ fun c : Dev nD => two (wtoks c) := by
  have hsub : (Finset.univ : Finset (Dev nD × Bool × Fin 7)).map ⟨wtokAt, wtokAt_injective⟩ ⊆ (Finset.univ : Finset Key) ×ˢ Finset.range 4 := by
    intro y hy
    obtain ⟨⟨c, d, s⟩, -, rfl⟩ := Finset.mem_map.mp hy
    refine Finset.mem_product.mpr ⟨Finset.mem_univ _, Finset.mem_range.mpr ?_⟩
    show s.val / 2 < 4
    have := s.isLt
    omega
  have h : (bigSep ((Finset.univ : Finset (Dev nD × Bool × Fin 7)).map ⟨wtokAt, wtokAt_injective⟩) fun x => (Release.writeTok ES x.1 (x.2 + 1) : sProp 𝕄))
      = bigSep Finset.univ fun c : Dev nD => two (wtoks c) := by
    rw [bigSep_map, bigSep_univ_prod]
    refine bigSep_congr fun c _ => ?_
    rw [bigSep_univ_prod]
    unfold two
    refine bigSep_congr fun d _ => ?_
    exact fin_Ico 7 fun s => Release.writeTok ES ((dn d c, d, pb s) : Key) (s / 2 + 1)
  rw [← h]
  exact bigSep_subset hsub

/-- The reader's place on a direction's two slots. -/
def readers (d : Bool) : sProp 𝕄 := iprop(Release.readerAt ES ((c, d, false) : Key) 0 ∗ Release.readerAt ES ((c, d, true) : Key) 0)

/-- All readers' places, each with its device. -/
theorem readers_eq : (bigSep (Finset.univ : Finset Key) fun k => (Release.readerAt ES k 0 : sProp 𝕄)) = bigSep Finset.univ fun c : Dev nD => two (readers c) := by
  rw [bigSep_univ_prod]
  refine bigSep_congr fun c _ => ?_
  rw [bigSep_univ_prod]
  unfold two
  refine bigSep_congr fun d _ => ?_
  exact two_eq fun b => Release.readerAt ES ((c, d, b) : Key) 0

/-! ## The credits -/

/-- The credits of one direction. -/
abbrev EK : Type := (Unit ⊕ Unit) ⊕ Fin 5 ⊕ Fin 7
/-- The payment of a direction and a number. -/
def entOf (x : Bool × EK) : Ent := match x.2 with
  | .inl (.inl _) => .bar x.1 | .inl (.inr _) => .ext x.1 | .inr (.inl j) => .crd x.1 j.val | .inr (.inr s) => .rcv x.1 s.val

deriving instance DecidableEq for Ent

/-- The direction and number of a payment. -/
def ofEnt : Ent → Bool × EK
  | .bar d => (d, .inl (.inl ())) | .ext d => (d, .inl (.inr ())) | .crd d j => (d, .inr (.inl (Fin.ofNat 5 j))) | .rcv d s => (d, .inr (.inr (Fin.ofNat 7 s)))

/-- Different directions or numbers are different payments. -/
theorem entOf_injective : Function.Injective entOf := by
  have h : Function.LeftInverse ofEnt entOf := by
    rintro ⟨d, (_ | _) | j | s⟩ <;> simp only [entOf, ofEnt, ofNat_val]
  exact h.injective

/-- The script names no payment twice. -/
theorem script_nodup : script.Nodup := by decide
/-- The script names every payment. -/
theorem script_all : script.toFinset = Finset.univ.map ⟨entOf, entOf_injective⟩ := by decide

/-- The device that pays a device pays that device. -/
theorem Ent.tgt_src (e : Ent) (c : Dev nD) : e.tgt (e.src c) = c := by cases e <;> simp only [Ent.tgt, Ent.src, up_dn, dn_up]
/-- The device paid by a device is paid by that device. -/
theorem Ent.src_tgt (e : Ent) (c : Dev nD) : e.src (e.tgt c) = c := by cases e <;> simp only [Ent.tgt, Ent.src, up_dn, dn_up]

/-- The credit that a payment brings. -/
def credOf (e : Ent) : sProp 𝕄 := cred (tallyAt (cell c e.kind) e.ix (kAmount e.kind))

/-- What the devices owe brings a device the credit of each payment. -/
theorem creds_list (l : List Ent) : (Pipeline.launchCred (fun d => due d l) c : sProp 𝕄) ⊢ bigSepL l (credOf (F := F) c) := by
  induction l with
  | nil => iintro -; iempintro
  | cons e l ih =>
    rw [bigSepL_cons]
    have h : (Pipeline.launchCred (fun d => due d (e :: l)) c : sProp 𝕄)
        = iprop(Pipeline.launchCred (fun d => due d l) c ∗ Pipeline.launchCred (fun d => tallyAt (cell (e.tgt d) e.kind) e.ix (kAmount e.kind)) c) :=
      Pipeline.launchCred_add (fun d => due d l) (fun d => tallyAt (cell (e.tgt d) e.kind) e.ix (kAmount e.kind)) c
    have ht : (Pipeline.launchCred (fun d => tallyAt (cell (e.tgt d) e.kind) e.ix (kAmount e.kind)) c : sProp 𝕄) ⊢ credOf c e :=
      Pipeline.launchCred_tallyAt (ksem e.kind) (fun d => e.tgt d) (fun d => e.src d) (fun d => e.tgt_src d) (fun d => e.src_tgt d) e.ix (kAmount e.kind) c
    rw [h]
    show _ ⊢ iprop(credOf c e ∗ bigSepL l (credOf c))
    iintro ⟨Hl, He⟩
    isplitl [He]
    · iapply ht; iexact He
    · iapply ih; iexact Hl

/-- One direction's credits. -/
def credsOf (d : Bool) : sProp 𝕄 :=
  iprop((cred (tallyAt (cell c .bar) 0 1) ∗ cred (tallyAt (cell c .exit) 0 1)) ∗ (bigSep (Finset.Ico 0 5) fun j => cred (tallyAt (cell c (.credit d)) j 1))
    ∗ bigSep (Finset.Ico 0 7) fun s => cred (tallyAt (cell c (.recv d (pb s))) s NC))

/-- The whole script brings a device both directions' credits. -/
theorem creds_intro : (Pipeline.launchCred (fun d => due d script) c : sProp 𝕄) ⊢ two (credsOf c) := by
  have h : bigSepL script (credOf (F := F) c) = two (credsOf c) := by
    rw [← bigSep_eq_bigSepL script script_nodup, script_all, bigSep_map, bigSep_univ_prod]
    unfold two
    refine bigSep_congr fun d _ => ?_
    rw [bigSep_univ_sum, bigSep_univ_sum, bigSep_univ_sum]
    exact congrArg₂ BI.sep (congrArg₂ BI.sep (unit_one _) (unit_one _))
      (congrArg₂ BI.sep (fin_Ico 5 fun j => cred (tallyAt (cell c (.credit d)) j 1)) (fin_Ico 7 fun s => cred (tallyAt (cell c (.recv d (pb s))) s NC)))
  rw [← h]
  exact creds_list c script

end Cert.KernelIdealRing

end
-- ==== Proof.KernelIdealRing.Ends.lean ====
/-
From what a device holds when it is launched to what its body starts from, and from what the body ends with to the closed semaphores and the whole buffers.
-/
module

public import proofs.«01_k».proof.Proof.KernelIdealRing.Setup
public import Idealize.SL.BI.BigOpNat

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × CK → ℕ) (κs : Key → ℕ) (c : Dev nD)

/-! ## The semaphores by direction -/

/-- Something for each semaphore of one direction. -/
def dirKinds (Φ : CK → sProp 𝕄) (d : Bool) : sProp 𝕄 :=
  iprop(Φ (.credit d) ∗ (Φ (.recv d false) ∗ Φ (.recv d true)) ∗ (Φ (.send d false) ∗ Φ (.send d true)) ∗ Φ (.out d))

/-- The semaphores are the two barriers' and each direction's. -/
theorem kinds_split (Φ : CK → sProp 𝕄) : bigSep Finset.univ Φ ⊣⊢ iprop(Φ .bar ∗ Φ .exit ∗ two (dirKinds Φ)) := by
  have e : bigSep Finset.univ Φ = iprop(Φ .bar ∗ Φ .exit ∗ Φ (.credit false) ∗ Φ (.recv false false) ∗ Φ (.recv false true) ∗ Φ (.send false false)
      ∗ Φ (.send false true) ∗ Φ (.out false) ∗ Φ (.credit true) ∗ Φ (.recv true false) ∗ Φ (.recv true true) ∗ Φ (.send true false)
      ∗ Φ (.send true true) ∗ Φ (.out true)) :=
    bigSep_univ_eq_bigSepL ([.bar, .exit, .credit false, .recv false false, .recv false true, .send false false, .send false true, .out false,
      .credit true, .recv true false, .recv true true, .send true false, .send true true, .out true] : List CK) (by decide) (by decide) Φ
  rw [e, two_eq]
  unfold dirKinds
  constructor
  · iintro ⟨H1, H2, H3, H4, H5, H6, H7, H8, G3, G4, G5, G6, G7, G8⟩
    isplitl [H1]; · iexact H1
    isplitl [H2]; · iexact H2
    isplitl [H3 H4 H5 H6 H7 H8]
    · isplitl [H3]; · iexact H3
      isplitl [H4 H5]; · isplitl [H4] <;> iassumption
      isplitl [H6 H7]; · isplitl [H6] <;> iassumption
      iexact H8
    · isplitl [G3]; · iexact G3
      isplitl [G4 G5]; · isplitl [G4] <;> iassumption
      isplitl [G6 G7]; · isplitl [G6] <;> iassumption
      iexact G8
  · iintro ⟨H1, H2, ⟨H3, ⟨H4, H5⟩, ⟨H6, H7⟩, H8⟩, G3, ⟨G4, G5⟩, ⟨G6, G7⟩, G8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [G3]; · iexact G3
    isplitl [G4]; · iexact G4
    isplitl [G5]; · iexact G5
    isplitl [G6]; · iexact G6
    isplitl [G7] <;> iassumption

/-! ## The start -/

/-- The device stands at the start on one of its cells. -/
def posAt (k : CK) : sProp 𝕄 := atPos ER (cell c k) 0 ∅ 0

/-- The same, spelt out. -/
theorem pos_out (k : CK) : posAt (F := F) c k ⊢ atPos ER (cell c k) 0 ∅ 0 := by
  unfold posAt
  iintro H
  iexact H

/-- What a device holds of one direction before its body runs. -/
def dirIn (d : Bool) : sProp 𝕄 :=
  iprop(dirKinds (posAt c) d ∗ toksOf c d ∗ wtoks c d ∗ readers c d ∗ credsOf c d ∗ (two fun b => slotSt (c, d, b))
    ∗ bigSep (Finset.range 8) fun s => slotAt c (blkM (org d c s) d))

/-- and what the body starts from there. -/
def dirStart (d : Bool) : sProp 𝕄 :=
  iprop(recvSt c 0 d ∗ crdSt c 0 d ∗ copySt c 0 d ∗ sndSt c 0 d ∗ outSt I c 0 d ∗ kitSt c 0 d ∗ slots0 c d
    ∗ (dutyTok ER (cell (up d c) .bar) 0 d.toNat ∗ cred (tallyAt (cell c .bar) 0 1))
    ∗ (dutyTok ER (cell (up d c) .exit) 0 d.toNat ∗ cred (tallyAt (cell c .exit) 0 1)))

/-- One direction's start. -/
theorem dir_start (d : Bool) : iprop(recs I K κs ∗ dirIn c d) ⊢ dirStart I c d := by
  unfold dirIn dirStart dirKinds toksOf wtoks readers credsOf recvSt recvPos crdSt crdPos copySt sndSt sendPos outSt outPos kitSt slots0 posAt
  rw [two_eq, if_pos (by decide : 0 < 5), Finset.range_zero, bigSep_empty]
  have hk : (bigSep (Finset.Ico 0 7) fun s => copyKit (F := F) c d s)
      = iprop((bigSep (Finset.Ico 0 7) fun s => dutyTok ER (cell (dn d c) (.recv d (pb s))) (s / 2) 0)
        ∗ (bigSep (Finset.Ico 0 7) fun s => dutyTok ER (cell c (.send d (pb s))) (s / 2) 0)
        ∗ bigSep (Finset.Ico 0 7) fun s => Release.writeTok ES ((dn d c, d, pb s) : Key) (s / 2 + 1)) := by
    rw [← bigSep_sep', ← bigSep_sep']; rfl
  have ho : (bigSep (Finset.Ico 0 8) fun s => outKit (F := F) c d s)
      = iprop((bigSep (Finset.Ico 0 8) fun s => dutyTok ER (cell c (.out d)) s 0) ∗ bigSep (Finset.range 8) fun s => slotAt c (blkM (org d c s) d)) := by
    rw [Finset.range_eq_Ico, ← bigSep_sep']; rfl
  rw [hk, ho]
  iintro ⟨#HR, ⟨Hc, ⟨Hr, Hr'⟩, ⟨Hs, Hs'⟩, Ho⟩, ⟨⟨Tb, Te⟩, Tc, Tr, Ts, To⟩, Hw, Hrd, ⟨⟨Cb, Ce⟩, Cc, Cr⟩, Hsl, Hbl⟩
  isplitl [Hr Hr' Cr]
  · isplitl [Hr Hr']
    · isplitl [Hr]; · iexact Hr
      iexact Hr'
    iexact Cr
  isplitl [Hc Cc]
  · isplitl [Hc]
    · iexists ∅
      isplitr; · ipureintro; exact Finset.empty_subset _
      isplitl [Hc]; · iexact Hc
      rw [bigSep_empty]; iempintro
    iexact Cc
  isplitl [Tr Ts Hw]
  · isplitl [Tr]; · iexact Tr
    isplitl [Ts] <;> iassumption
  isplitl [Hs Hs']
  · isplitl [Hs Hs']
    · isplitl [Hs]; · iexact Hs
      iexact Hs'
    isplitr
    · iapply (recs_reached I K κs c (.send d false)); iexact HR
    · iapply (recs_reached I K κs c (.send d true)); iexact HR
  isplitl [Ho]
  · isplitl [Ho]
    · isplitl [Ho]; · iexact Ho
      iapply (recs_reached I K κs c (.out d)); iexact HR
    iempintro
  isplitl [To Hbl]
  · isplitl [To] <;> iassumption
  isplitl [Hsl Hrd Tc]
  · isplitl [Hsl]; · iexact Hsl
    isplitl [Hrd] <;> iassumption
  isplitl [Tb Cb]
  · isplitl [Tb] <;> iassumption
  isplitl [Te] <;> iassumption

/-- What a device holds before its body runs. -/
def bodyIn : sProp 𝕄 :=
  iprop((bigSep Finset.univ (posAt c) ∗ two (toksOf c) ∗ two (wtoks c) ∗ two (readers c) ∗ two (credsOf c))
    ∗ (slotAt c (commM false) ∗ slotAt c (commM true) ∗ slotAt c stgM ∗ slotAt c resM)
    ∗ owns (c : Thread nD τ) xM fullShare (I.x c) ∗ wOwn I c)

/-- Two credits of one make one of two. -/
theorem cred_two (k : CK) : iprop(cred (tallyAt (cell c k) 0 1) ∗ cred (tallyAt (cell c k) 0 1)) ⊢ (cred (tallyAt (cell c k) 0 2) : sProp 𝕄) := by
  have h : (tallyAt (cell c k) 0 1 + tallyAt (cell c k) 0 1 : CellTallies nD τ sig ℕ) = tallyAt (cell c k) 0 2 := tallyAt_add _ _ _ _
  rw [← h]
  exact (cred_add _ _).2

/-- Both directions' starts. -/
theorem dirs_start : iprop(recs I K κs ∗ two (dirIn c)) ⊢ two (dirStart I c) := by
  unfold two
  exact bigSep_with_persistent fun d _ => dir_start I K κs c d

/-- What the device is launched with is what its body starts from. -/
theorem body_start : iprop(recs I K κs ∗ bodyIn I c) ⊢ startSt I c := by
  have hc : iprop(slotAt (F := F) c (commM false) ∗ slotAt c (commM true)) ⊢ two fun d => two fun b => slotSt (c, d, b) := by
    rw [two_eq (fun d => two fun b => slotSt (c, d, b))]
    exact BI.sep_mono (comm_part c false) (comm_part c true)
  have hin : iprop(two (dirKinds (posAt c)) ∗ two (toksOf c) ∗ two (wtoks c) ∗ two (readers c) ∗ two (credsOf c) ∗ (two fun d => two fun b => slotSt (c, d, b))
      ∗ two fun d => bigSep (Finset.range 8) fun s => slotAt c (blkM (org d c s) d)) = two (dirIn (F := F) c) := by
    simp only [← two_sep]; rfl
  have hst : two (dirStart I c) = iprop(two (recvSt c 0) ∗ two (crdSt c 0) ∗ two (copySt c 0) ∗ two (sndSt c 0) ∗ two (outSt I c 0) ∗ two (kitSt c 0) ∗ two (slots0 c)
      ∗ ((two fun d => dutyTok ER (cell (up d c) .bar) 0 d.toNat) ∗ two fun _ => cred (tallyAt (cell c .bar) 0 1))
      ∗ ((two fun d => dutyTok ER (cell (up d c) .exit) 0 d.toNat) ∗ two fun _ => cred (tallyAt (cell c .exit) 0 1))) := by
    simp only [← two_sep]; rfl
  unfold bodyIn startSt
  iintro ⟨#HR, ⟨Hpos, Ht, Hw, Hrd, Hcr⟩, ⟨Hc, Hc', Hsg, Hres⟩, Hx, HW⟩
  ihave Hpos := (kinds_split (posAt c)).1 $$ Hpos
  icases Hpos with ⟨Hpb, Hpe, Hpd⟩
  ihave Hsl := hc $$ [Hc Hc']
  · isplitl [Hc] <;> iassumption
  ihave Hbl := (out_part c) $$ Hres
  ihave Hsg := (stage_part c) $$ Hsg
  ihave Hx := (x_part I c) $$ Hx
  ihave Hin := (Entails.of_eq hin) $$ [Hpd Ht Hw Hrd Hcr Hsl Hbl]
  · isplitl [Hpd]; · iexact Hpd
    isplitl [Ht]; · iexact Ht
    isplitl [Hw]; · iexact Hw
    isplitl [Hrd]; · iexact Hrd
    isplitl [Hcr]; · iexact Hcr
    isplitl [Hsl] <;> iassumption
  ihave Hin := (dirs_start I K κs c) $$ [Hin]
  · isplitr; · iexact HR
    iexact Hin
  ihave Hin := (Entails.of_eq hst) $$ Hin
  icases Hin with ⟨H1, H2, H3, H4, H5, H6, H7, ⟨Hbt, Hbc⟩, Het, Hec⟩
  ihave Hbc := (Entails.of_eq (two_eq fun _ : Bool => cred (tallyAt (cell c .bar) 0 1))) $$ Hbc
  ihave Hec := (Entails.of_eq (two_eq fun _ : Bool => cred (tallyAt (cell c .exit) 0 1))) $$ Hec
  ihave Hbc := (cred_two c .bar) $$ Hbc
  ihave Hec := (cred_two c .exit) $$ Hec
  isplitl [H1 H2 H3 H4 H5 H6 H7 HW Hx Hsg]
  · isplitl [H1]; · iexact H1
    isplitl [H2]; · iexact H2
    isplitl [H3]; · iexact H3
    isplitl [H4]; · iexact H4
    isplitl [H5]; · iexact H5
    isplitl [H6]; · iexact H6
    isplitl [HW]; · iexact HW
    isplitl [Hx]; · iexact Hx
    isplitl [Hsg] <;> iassumption
  isplitl [Hbt Hpb Hbc]
  · isplitl [Hbt]; · iexact Hbt
    isplitl [Hpb]; · iapply (pos_out c .bar); iexact Hpb
    iexact Hbc
  isplitl [Het]; · iexact Het
  isplitl [Hpe]; · iapply (pos_out c .exit); iexact Hpe
  iexact Hec

/-! ## The end -/

/-- One of the device's counters stands at zero. -/
def zeroAt (k : CK) : sProp 𝕄 := semVal (cell c k) 0

/-- A semaphore whose rounds are over reads zero. -/
theorem close_one (k : CK) (R : ℕ) (hR : ∀ r, R ≤ r → kDuties k r = ∅) : iprop(recs I K κs ∗ atPos ER (cell c k) R ∅ 0) ⊢ iprop(|={Set.univ}=> zeroAt c k) := by
  have h := Rounds.cell_close ER (Rd I) (g := cell c k) (Set.mem_univ (K (c, k))) (fun h => h) (R := R) (fun r hr => by rw [Rd_duties]; exact hR r hr)
  unfold zeroAt
  iintro ⟨HR, Ha⟩
  iapply h
  isplitl [HR]; · iapply (recs_inv I K κs c k); iexact HR
  iexact Ha

/-- After the seventh copy there is no further one. -/
theorem copy_over {b : Bool} {R : ℕ} (h : 7 ≤ copyNo b R) : ∀ r, R ≤ r → copyNo b r < 7 → False := fun r hr h' => by
  unfold copyNo at h h'
  omega

/-- What is left of one direction when the body ends. -/
def dirEnd (d : Bool) : sProp 𝕄 := iprop(recvSt c 7 d ∗ crdSt c 5 d ∗ sndSt c 7 d ∗ outSt I c 8 d ∗ got I c 5 d ∗ got I c 6 d)

/-- What one direction leaves. -/
def dirOut (d : Bool) : sProp 𝕄 :=
  iprop(dirKinds (zeroAt c) d ∗ (bigSep (Finset.range 8) fun s => doneBlk I c d s) ∗ two fun b => slotSt (c, d, b))

/-- One direction's counters are at zero and its buffers are whole. -/
theorem dir_end (d : Bool) : iprop(recs I K κs ∗ dirEnd I c d) ⊢ iprop(|={Set.univ}=> dirOut I c d) := by
  have hr (b : Bool) (R : ℕ) (h : 7 ≤ copyNo b R) := close_one I K κs c (.recv d b) R fun r hr => if_neg fun h' => copy_over h r hr h'
  have hs (b : Bool) (R : ℕ) (h : 7 ≤ copyNo b R) := close_one I K κs c (.send d b) R fun r hr => if_neg fun h' => copy_over h r hr h'
  have hc := close_one I K κs c (.credit d) 1 fun r hr => if_neg (by omega)
  have ho := close_one I K κs c (.out d) 8 fun r hr => if_neg (by omega)
  unfold dirEnd dirOut dirKinds recvSt recvPos crdSt crdPos sndSt sendPos outSt outPos got rowsAt
  rw [two_eq, if_neg (by decide : ¬ 5 < 5)]
  iintro ⟨#HR, ⟨⟨Ha, Ha'⟩, -⟩, ⟨Hc, -⟩, ⟨⟨Hs, Hs'⟩, -⟩, ⟨⟨Ho, -⟩, Hb⟩, ⟨Hg, -⟩, Hg', -⟩
  imod (hr true 3 (by decide)) $$ [Ha] with Za
  · isplitr; · iexact HR
    iexact Ha
  imod (hr false 4 (by decide)) $$ [Ha'] with Za'
  · isplitr; · iexact HR
    iexact Ha'
  imod (hs true 3 (by decide)) $$ [Hs] with Zs
  · isplitr; · iexact HR
    iexact Hs
  imod (hs false 4 (by decide)) $$ [Hs'] with Zs'
  · isplitr; · iexact HR
    iexact Hs'
  imod hc $$ [Hc] with Zc
  · isplitr; · iexact HR
    iexact Hc
  imod ho $$ [Ho] with Zo
  · isplitr; · iexact HR
    iexact Ho
  imodintro
  isplitl [Za Za' Zs Zs' Zc Zo]
  · isplitl [Zc]; · iexact Zc
    isplitl [Za Za']; · isplitl [Za'] <;> iassumption
    isplitl [Zs Zs']; · isplitl [Zs'] <;> iassumption
    iexact Zo
  isplitl [Hb]; · iexact Hb
  isplitl [Hg']
  · iapply (slot_of_owns c d false (xhalf I (org d c (6 + 1)) d)); iexact Hg'
  · iapply (slot_of_owns c d true (xhalf I (org d c (5 + 1)) d)); iexact Hg

/-- What a device holds when its body has run and its semaphores are closed. -/
def bodyOut : sProp 𝕄 :=
  iprop(bigSep Finset.univ (zeroAt c) ∗ (slotAt c (commM false) ∗ slotAt c (commM true) ∗ slotAt c stgM)
    ∗ owns (c : Thread nD τ) resM fullShare (outFull I c) ∗ owns (c : Thread nD τ) xM fullShare (I.x c) ∗ wOwn I c)

/-- The same for both directions. -/
theorem dirs_end : iprop(recs I K κs ∗ two (dirEnd I c)) ⊢ iprop(|={Set.univ}=> two (dirOut I c)) := by
  unfold two
  exact (bigSep_with_persistent fun d _ => dir_end I K κs c d).trans (bigSep_fupd _ _)

/-- What the body ends with: every counter at zero, every buffer whole, the result's contents. -/
theorem body_end : iprop(recs I K κs ∗ endSt I c) ⊢ iprop(|={Set.univ}=> bodyOut I c) := by
  have hin : iprop(two (recvSt c 7) ∗ two (crdSt c 5) ∗ two (sndSt c 7) ∗ two (outSt I c 8) ∗ two (got I c 5) ∗ two (got I c 6)) = two (dirEnd I c) := by
    simp only [← two_sep]; rfl
  have hout : two (dirOut I c) = iprop(two (dirKinds (zeroAt c)) ∗ (two fun d => bigSep (Finset.range 8) fun s => doneBlk I c d s) ∗ two fun d => two fun b => slotSt (c, d, b)) := by
    simp only [← two_sep]; rfl
  have hc : (two fun d => two fun b => slotSt (F := F) (c, d, b)) ⊢ iprop(slotAt c (commM false) ∗ slotAt c (commM true)) := by
    rw [two_eq (fun d => two fun b => slotSt (c, d, b))]
    exact BI.sep_mono (comm_whole c false) (comm_whole c true)
  have hb := close_one I K κs c .bar 1 fun r hr => if_neg (by omega)
  have he := close_one I K κs c .exit 1 fun r hr => if_neg (by omega)
  unfold endSt doneSt bodyOut
  iintro ⟨#HR, ⟨H1, H2, H3, H4, H5, H6, Hsg, HW⟩, Hx, Hb, He⟩
  imod (dirs_end I K κs c) $$ [H1 H2 H3 H4 H5 H6] with H
  · isplitr; · iexact HR
    iapply (Entails.of_eq hin)
    isplitl [H1]; · iexact H1
    isplitl [H2]; · iexact H2
    isplitl [H3]; · iexact H3
    isplitl [H4]; · iexact H4
    isplitl [H5] <;> iassumption
  imod hb $$ [Hb] with Hb
  · isplitr; · iexact HR
    iexact Hb
  imod he $$ [He] with He
  · isplitr; · iexact HR
    iexact He
  ihave H := (Entails.of_eq hout) $$ H
  icases H with ⟨Hz, Hd, Hs⟩
  imodintro
  isplitl [Hb He Hz]
  · iapply (kinds_split (zeroAt c)).2
    isplitl [Hb]; · iexact Hb
    isplitl [He] <;> iassumption
  isplitl [Hs Hsg]
  · ihave Hs := hc $$ Hs
    icases Hs with ⟨Hs, Hs'⟩
    isplitl [Hs]; · iexact Hs
    isplitl [Hs']; · iexact Hs'
    iapply (stage_whole c); iexact Hsg
  isplitl [Hd]; · iapply (out_whole I c); iexact Hd
  isplitl [Hx]; · iapply (x_whole I c); iexact Hx
  iexact HW

end Cert.KernelIdealRing

end
-- ==== Proof.KernelIdealRing.Launch.lean ====
/-
The launch: the run of the eight devices from any memory, and what it leaves in every array.
-/
module

public import proofs.«01_k».proof.Proof.KernelIdealRing.Ends
public import Idealize.SL.BI.BigOpNat
public import Idealize.ShloMosaic.Lib.Pipeline.CollectiveSegs

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What the windows hold -/

/-- The memory at launch. -/
def s₀ : MemSt nD τ sig (Elt F) := ⟨m, fun _ => 0, ρ⟩

/-- The arguments as each device's windows show them. -/
def inp : Inp F where
  x c := (win0_0.blk (0 : Fin 1)).view.read (Elt F) (m ((c : Thread nD τ).loc main_arg0))
  w c := (win0_1.blk (0 : Fin 1)).view.read (Elt F) (m ((c : Thread nD τ).loc main_arg1))

/-- The grid has one point. -/
theorem cfg0_N : cfg0.N = 1 := by decide
/-- The one point. -/
def t₀ : Fin cfg0.N := ⟨0, by rw [cfg0_N]; decide⟩
/-- Every point is the one point. -/
theorem fin_N (t : Fin cfg0.N) : t = t₀ := by
  obtain ⟨t, ht⟩ := t; have := cfg0_N; exact Fin.ext (by simp only [t₀]; omega)

/-- What a device holds that only it holds, and the shared facts. -/
def linear (c : Dev nD) : sProp 𝕄 := iprop(bigSep Finset.univ (posAt c) ∗ two (toksOf c) ∗ two (wtoks c) ∗ two (readers c))

/-- What all devices know: the invariants of cells and slots. -/
def shared (K : Dev nD × CK → ℕ) (κs : Key → ℕ) : sProp 𝕄 :=
  iprop((bigSep Finset.univ fun ck : Dev nD × CK => cellInv ER (Rd (inp m)) (K ck) (cell ck.1 ck.2))
    ∗ (bigSep Finset.univ fun ck : Dev nD × CK => reached ER (cell ck.1 ck.2) 0)
    ∗ bigSep Finset.univ fun k : Key => Release.slotInv ES (κs k) k (slotSt k))

instance shared_persistent (K : Dev nD × CK → ℕ) (κs : Key → ℕ) : BI.Persistent (shared m K κs) := by unfold shared; infer_instance

/-- What a device's body has beside its buffers. -/
def start (c : Dev nD) : sProp 𝕄 := iprop((∃ K κs, recs (inp m) K κs ∗ linear c) ∗ two (credsOf c) ∗ slotAt c resM)

/-- What is held when the body begins. -/
def Φ₀ (c : Dev nD) : sProp 𝕄 := iprop(start m c ∗ slotAt c (commM false) ∗ slotAt c (commM true) ∗ slotAt c stgM)
/-- What is held when the body has ended. -/
def Φ₁ (c : Dev nD) : sProp 𝕄 :=
  iprop((bigSep Finset.univ (zeroAt c) ∗ owns (c : Thread nD τ) resM fullShare (outFull (inp m) c)) ∗ slotAt c (commM false) ∗ slotAt c (commM true) ∗ slotAt c stgM)

/-- The launch's data: what the windows hold, what is held and owed before and after the body. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).w c
  Φ t := match t with
    | ⟨0, _⟩ => Φ₀ m c
    | ⟨_ + 1, _⟩ => Φ₁ m c
  q _ := fullShare
  owed t := match t with
    | ⟨0, _⟩ => due c script
    | ⟨_ + 1, _⟩ => 0

/-- Something for each of the two windows. -/
theorem bigSep_W (Φ : Fin cfg0.W → sProp 𝕄) : bigSep Finset.univ Φ = iprop(Φ (0 : Fin 2) ∗ Φ (1 : Fin 2)) := bigSep_W0 Φ

/-- The first window is fetched. -/
theorem fetch_0 (t : Fin cfg0.N) : (cfg0.win (0 : Fin 2)).fetch t = true := by rw [fin_N t]; rfl
/-- The second window is fetched. -/
theorem fetch_1 (t : Fin cfg0.N) : (cfg0.win (1 : Fin 2)).fetch t = true := by rw [fin_N t]; rfl

/-! ## The body's obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The second window holds the device's columns. -/
theorem w_in (c : Dev nD) (X : (cc0_stg1_0 : Ref sig .tc).ty.Contents (Elt F)) (h : X = (inp m).w c) : stg c cc0_stg1_0 X ⊢ wOwn (inp m) c := by
  subst h
  unfold wOwn
  iintro ⟨%f, %hf, H⟩
  rw [← hf]; iexact H
/-- The device's columns go back into the window. -/
theorem w_out (c : Dev nD) : wOwn (inp m) c ⊢ stg c cc0_stg1_0 ((inp m).w c) := by
  unfold wOwn
  iintro H
  iexists ((inp m).w c)
  isplitr
  · ipureintro; rfl
  iexact H
/-- The first window holds the device's rows. -/
theorem x_in (c : Dev nD) (X : (cc0_stg0_0 : Ref sig .tc).ty.Contents (Elt F)) (h : X = (inp m).x c) :
    stg c cc0_stg0_0 X ⊢ owns (c : Thread nD τ) xM fullShare ((inp m).x c) := by
  subst h
  rw [owns_whole_eq]
/-- The device's rows go back into the window. -/
theorem x_out (c : Dev nD) : owns (c : Thread nD τ) xM fullShare ((inp m).x c) ⊢ stg c cc0_stg0_0 ((inp m).x c) := by
  rw [owns_whole_eq]

/-- What the body is given. -/
def bodyPre (c : Dev nD) : sProp 𝕄 :=
  iprop(Φ₀ m c ∗ (dats m ρ 0 c).owesAt (0 : ℕ) t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body gives back. -/
def bodyPost (c : Dev nD) : sProp 𝕄 :=
  iprop(Φ₁ m c ∗ (dats m ρ 0 c).owesAt (0 : ℕ) t₀.succ ∗ stg c cc0_stg0_0 ((inp m).x c) ∗ stg c cc0_stg1_0 ((inp m).w c))

/-- The body, from what it is given to what it gives back. -/
theorem sound_body (c : Dev nD) : bodyPre m ρ c ⊢ WP c (bodyB (ringNames c)) fun _ => bodyPost m ρ c := by
  unfold bodyPre bodyPost Φ₀ start Dat.owesAt Pipeline.owesWithin
  iintro ⟨⟨⟨⟨%K, %κs, #HR, Hlin⟩, Hcr, Hres⟩, Hc, Hc', Hsg⟩, ⟨%W, -, HO⟩, ⟨%d, Hx⟩, %d', Hw⟩
  ihave Hx := (x_in m c _ (by unfold Dat.before; rw [if_pos (fetch_0 t₀)]; rfl)) $$ Hx
  ihave Hw := (w_in m c _ (by unfold Dat.before; rw [if_pos (fetch_1 t₀)]; rfl)) $$ Hw
  ihave Hst := (body_start (inp m) K κs c) $$ [Hlin Hcr Hres Hc Hc' Hsg Hx Hw]
  · isplitr; · iexact HR
    unfold bodyIn linear
    icases Hlin with ⟨H1, H2, H3, H4⟩
    isplitl [H1 H2 H3 H4 Hcr]
    · isplitl [H1]; · iexact H1
      isplitl [H2]; · iexact H2
      isplitl [H3]; · iexact H3
      isplitl [H4] <;> iassumption
    isplitl [Hres Hc Hc' Hsg]
    · isplitl [Hc]; · iexact Hc
      isplitl [Hc']; · iexact Hc'
      isplitl [Hsg] <;> iassumption
    isplitl [Hx] <;> iassumption
  have hend : iprop(recs (inp m) K κs ∗ endSt (inp m) c ∗ owing c []) ⊢ iprop(|={Set.univ}=> bodyPost m ρ c) := by
    unfold bodyPost Φ₁ owing Dat.owesAt Pipeline.owesWithin
    iintro ⟨#HR, He, %W', HO⟩
    imod (body_end (inp m) K κs c) $$ [He] with He
    · isplitr; · iexact HR
      iexact He
    unfold bodyOut
    icases He with ⟨Hz, ⟨Hc, Hc', Hsg⟩, Hres, Hx, Hw⟩
    imodintro
    isplitl [Hz Hc Hc' Hsg Hres]
    · isplitl [Hz Hres]
      · isplitl [Hz] <;> iassumption
      isplitl [Hc]; · iexact Hc
      isplitl [Hc'] <;> iassumption
    isplitl [HO]
    · iexists W'
      isplitr; · ipureintro; exact fun _ _ => Or.inl trivial
      iexact HO
    isplitl [Hx]
    · iapply (x_out m c) $$ Hx
    · iapply (w_out m c) $$ Hw
  unfold bodyPost Φ₁ Dat.owesAt Pipeline.owesWithin at hend
  iapply (wp_fupd (E := Set.univ) (Fr := frame) (wpE := wpE (defs₀ (F := F)) 𝒱₀ (c : Thread nD τ) none) (p := bodyB (ringNames c)))
  iapply (body_run (inp m) K κs c) $$ [Hst HO]
  · isplitr; · iexact HR
    isplitl [Hst]; · iexact Hst
    unfold owing
    iexists W
    iexact HO
  iintro ⟨He, HO⟩
  iapply hend
  isplitr; · iexact HR
  isplitl [He] <;> iassumption

/-- The kernel asks for its device first; from there on it is the body at that device's names. -/
theorem entry (c : Dev nD) (Q : PUnit.{1} → sProp 𝕄) : WP c (bodyB (ringNames c)) Q
    ⊢ wp frame (wpE (defs₀ (F := F)) 𝒱₀ (c : Thread nD τ) none) Set.univ ((Prog.lift .deviceId).bind fun c => bodyB (litNames c)) Q := by
  rw [show ((Prog.lift .deviceId).bind fun c => bodyB (litNames c) : Prog (TpuEff nD τ sig (Elt F) Λ₀ .tc) PUnit) = .op .deviceId fun c => bodyB (litNames c) from rfl,
    wp_deviceId, litNames_eq]

set_option maxRecDepth 20000 in
/-- The library's body obligation on core `c`. -/
theorem body_obligation (c : Dev nD) : BodyObligation (dats (F := F) m ρ 0 c) (defs₀ (F := F)) 𝒱₀ (0 : ℕ) Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body xM (Memref.isWhole_whole _) wM (Memref.isWhole_whole _) resM (Memref.isWhole_whole _)
      (Memref.whole cc0_scratch0) (Memref.isWhole_whole _) (Memref.whole cc0_scratch1) (Memref.isWhole_whole _) stgM (Memref.isWhole_whole _)
      cc0_scratch3 cc0_scratch4 cc0_scratch5 cc0_scratch6 cc0_scratch7 cc0_scratch8 cc0_scratch9 cc0_scratch10) (fun _ => bodyPost m ρ c)
  rw [body_eq]
  exact (sound_body m ρ c).trans (entry c _)

/-! ## The launch -/

/-- The kernel's own semaphores, all but the barrier's. -/
def osem (i : Fin 13) : SemLoc sig := ksem (kinds.tail.get i)

/-- They are scoped, different, and no window's. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The ghost state of the launch. -/
def u₀ : UU :=
  (initOf (Pipeline.cells cfgs cellOf_inj) (Pipeline.launchToks cfgs cellOf_inj), (initOf ringCells ringToks, Release.initSlots Finset.univ 4))

/-- The slots' share of the launch's element, which one device brings for all. -/
def seed (c : Dev nD) : sProp 𝕄 := if c = 0 then BI.own (ES (Release.initSlots Finset.univ 4)) else iprop(emp)

/-- A device's part of the ghost state. -/
def G (c : Dev nD) : sProp 𝕄 :=
  iprop((bigSep Finset.univ fun k : CK => roundState ER (Rd (inp m)) (cell c k) 0)
    ∗ bigSep Finset.univ (posAt c) ∗ (bigSep Finset.univ fun k : CK => reached ER (cell c k) 0) ∗ two (toksOf c) ∗ seed c)

/-- A device's part once the invariants are made. -/
def G' (c : Dev nD) : sProp 𝕄 := iprop(∃ K κs, shared m K κs ∗ linear c)

/-- The slots' share is one device's. -/
theorem seed_intro : BI.own (ES (Release.initSlots Finset.univ 4)) ⊢ bigSep Finset.univ (seed (F := F)) := by
  rw [bigSep_univ_at _ (0 : Dev nD)]
  have h : bigSep (Finset.univ.erase (0 : Dev nD)) (seed (F := F)) = iprop(emp) :=
    (bigSep_congr fun c hc => if_neg (Finset.ne_of_mem_erase hc)).trans (bigSep_emp_const (Finset.univ.erase (0 : Dev nD)))
  rw [h]
  iintro H
  isplitl [H]
  · unfold seed; rw [if_pos rfl]; iexact H
  · iempintro

/-- That device hands it on. -/
theorem seed_elim : bigSep Finset.univ (seed (F := F)) ⊢ BI.own (ES (Release.initSlots Finset.univ 4)) := by
  have h : seed (F := F) 0 = BI.own (ES (Release.initSlots Finset.univ 4)) := if_pos rfl
  rw [← h]
  exact fam_at (Finset.mem_univ 0)

/-- The ghost state divides among the devices. -/
theorem fund_ring : BI.own (embR ((initOf ringCells ringToks, Release.initSlots Finset.univ 4) : UB)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hpair : (BI.own (embR ((initOf ringCells ringToks, Release.initSlots Finset.univ 4) : UB)) : sProp 𝕄)
      ⊢ iprop(BI.own (ER (initOf ringCells ringToks)) ∗ BI.own (ES (Release.initSlots Finset.univ 4))) := by
    exact own_pair_emb (embR : Emb UB (MT nD τ sig ℕ (Elt F) ℕ UU ℕ)) _ _
  have hG : bigSep Finset.univ (G (F := F) m) = iprop((bigSep Finset.univ fun c : Dev nD => bigSep Finset.univ fun k : CK => roundState ER (Rd (inp m)) (cell c k) 0)
      ∗ (bigSep Finset.univ fun c : Dev nD => bigSep Finset.univ (posAt c)) ∗ (bigSep Finset.univ fun c : Dev nD => bigSep Finset.univ fun k : CK => reached ER (cell c k) 0)
      ∗ (bigSep Finset.univ fun c : Dev nD => two (toksOf c)) ∗ bigSep Finset.univ seed) := by
    rw [← bigSep_sep', ← bigSep_sep', ← bigSep_sep', ← bigSep_sep']; rfl
  iintro HX
  ihave HX := hpair $$ HX
  icases HX with ⟨HX, HS⟩
  imod (Rounds.fund ER (Rd (inp m)) ringCells ringToks) $$ HX with ⟨Hst, Hr, Hat, Htok⟩
  imodintro
  ihave Hst := (Entails.of_eq (hX fun g => roundState ER (Rd (inp m)) g 0)) $$ Hst
  ihave Hat := (Entails.of_eq (hX fun g => atPos ER g 0 ∅ 0)) $$ Hat
  ihave Hr := (Entails.of_eq (hX fun g => reached ER g 0)) $$ Hr
  ihave Htok := (Entails.of_eq ringToks_eq) $$ Htok
  ihave HS := seed_intro $$ HS
  rw [hG]
  isplitl [Hst]; · iexact Hst
  isplitl [Hat]; · iexact Hat
  isplitl [Hr]; · iexact Hr
  isplitl [Htok] <;> iassumption

/-- The kernel's own counters at zero, by kind. -/
theorem ownSems0_eq (c : Dev nD) : (Pipeline.ownSems0 (Ix := ℕ) (Name := ℕ) (U := UU) (Lvl := ℕ) (Val := Elt F) (τ := τ) osem c : sProp 𝕄)
    = bigSepL kinds.tail (zeroAt c) := by
  rw [Pipeline.ownSems0_eq_of_list c osem [0, 1, 2, 3, 4, 5, 6, 7, 8, 9, 10, 11, 12] (by decide) (by decide)]; rfl
/-- The barrier's counter at zero. -/
theorem unscopedSems0_eq (c : Dev nD) : (unscopedSems0 c : sProp 𝕄) = zeroAt c .bar := by
  unfold unscopedSems0; rw [bigSep_eq_bigSepL_of_eq [SemLoc.reg barS] (by decide) (by decide)]; rfl

/-- All counters at zero are the barrier's and the kernel's own. -/
theorem sems0_eq (c : Dev nD) :
    bigSep Finset.univ (zeroAt c) = iprop(unscopedSems0 c ∗ Pipeline.ownSems0 (Ix := ℕ) (Name := ℕ) (U := UU) (Lvl := ℕ) (Val := Elt F) (τ := τ) osem c) := by
  rw [ownSems0_eq, unscopedSems0_eq]
  exact bigSep_univ_eq_bigSepL kinds (by decide) (by decide) (zeroAt c)

/-- A device's counters at zero become its cells' invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (inp m)) κ (cell c k)))
          ∗ bigSep Finset.univ (posAt c) ∗ (bigSep Finset.univ fun k : CK => reached ER (cell c k) 0) ∗ two (toksOf c) ∗ seed c) := by
  have hinv : iprop(bigSep Finset.univ (zeroAt c) ∗ bigSep Finset.univ fun k : CK => roundState ER (Rd (inp m)) (cell c k) 0)
      ⊢ (|={Set.univ}=> bigSep Finset.univ fun k => iprop(∃ κ : ℕ, cellInv ER (Rd (inp m)) κ (cell c k)) : sProp 𝕄) := by
    rw [← bigSep_sep']
    exact (bigSep_mono fun k _ => (Rounds.body_intro ER (Rd (inp m)) (cell c k)).trans inv_alloc).trans (bigSep_fupd _ _)
  rw [sems0_eq] at hinv
  unfold G
  iintro ⟨Hos, Hus, Hst, Hat⟩
  imod hinv $$ [Hos Hus Hst] with Hinv
  · isplitl [Hos Hus]
    · isplitl [Hus] <;> iassumption
    iexact Hst
  imodintro
  isplitl [Hinv] <;> iassumption

instance slotSt_storable (k : Key) : BI.Storable (upEmb : UEmb _ 𝕄) (slotSt (F := F) k) := by unfold slotSt slotAt; infer_instance

/-- From every device's cells and the slots' share, each device's part. -/
theorem regroup :
    (bigSep Finset.univ fun c : Dev nD => iprop((bigSep Finset.univ fun k => iprop(∃ κ : ℕ, cellInv ER (Rd (inp m)) κ (cell c k)))
          ∗ bigSep Finset.univ (posAt c) ∗ (bigSep Finset.univ fun k : CK => reached ER (cell c k) 0) ∗ two (toksOf c) ∗ seed c) : sProp 𝕄)
      ⊢ |={Set.univ}=> bigSep Finset.univ (G' m) := by
  have hl : (bigSep Finset.univ (linear (F := F))) = iprop((bigSep Finset.univ fun c : Dev nD => bigSep Finset.univ (posAt c)) ∗ (bigSep Finset.univ fun c : Dev nD => two (toksOf c))
      ∗ (bigSep Finset.univ fun c : Dev nD => two (wtoks c)) ∗ bigSep Finset.univ fun c : Dev nD => two (readers c)) := by
    rw [← bigSep_sep', ← bigSep_sep', ← bigSep_sep']; rfl
  rw [bigSep_sep', bigSep_sep', bigSep_sep', bigSep_sep', ← bigSep_univ_prod (fun ck : Dev nD × CK => iprop(∃ κ : ℕ, cellInv ER (Rd (inp m)) κ (cell ck.1 ck.2))),
    ← bigSep_univ_prod (fun ck : Dev nD × CK => (reached ER (cell ck.1 ck.2) 0 : sProp 𝕄))]
  iintro ⟨HI, Hat, #HR, Htok, HS⟩
  ihave HK := (BI.bigSep_exists_pi Finset.univ (fun (ck : Dev nD × CK) (κ : ℕ) => (cellInv ER (Rd (inp m)) κ (cell ck.1 ck.2) : sProp 𝕄))) $$ HI
  icases HK with ⟨%K, #HI⟩
  ihave HS := seed_elim $$ HS
  imod (Release.slots_init ES (Finset.univ : Finset Key) 4 (slotSt (F := F))) $$ HS with ⟨%κs, -, #Hsl, Hrd, Hwt⟩
  ihave Hrd := (Entails.of_eq readers_eq) $$ Hrd
  ihave Hwt := wtoks_intro $$ Hwt
  imodintro
  iapply (bigSep_with_persistent (R := shared m K κs) (Φ := linear) fun c _ => by
    unfold G'
    iintro ⟨HR, Hl⟩
    iexists K, κs
    isplitl [HR] <;> iassumption)
  isplitr
  · unfold shared
    isplitr; · iexact HI
    isplitr; · iexact HR
    iexact Hsl
  · rw [hl]
    isplitl [Hat]; · iexact Hat
    isplitl [Htok]; · iexact Htok
    isplitl [Hwt] <;> iassumption

/-- The global step: the semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  refine (show _ ⊢ _ from (bigSep_mono fun c _ => core_alloc m c).trans (bigSep_fupd _ _)).trans ?_
  iintro H
  imod H with H
  iapply (regroup m) $$ H

/-! ### The theorem's side conditions -/

/-- What the launch leaves a device is what its body starts from. -/
theorem start_intro (c : Dev nD) :
    iprop(Pipeline.unscopedRestP Pipeline.Prefetch.none cfg0.spec c (fun b => m ((c : Thread nD τ).loc b)) ∗ levAts L lv
        ∗ Pipeline.launchCred (fun c => due c script) c ∗ prngReg c (ρ c) ∗ G' m c)
      ⊢ |={Set.univ}=> iprop(start m c ∗ emp) := by
  have hu : (Pipeline.unscopedRestP Pipeline.Prefetch.none cfg0.spec c (fun b => m ((c : Thread nD τ).loc b)) : sProp 𝕄)
      ⊢ iprop(((c : Thread nD τ).loc main_v1) ↦{fullShare} m ((c : Thread nD τ).loc main_v1)) := by
    rw [Pipeline.unscopedRestP_none]; exact Entails.of_eq (unscopedRest0_eq c _)
  unfold start G' shared recs
  rw [slot_whole]
  iintro ⟨Hu, #Hlev, Hcr, -, %K, %κs, ⟨#H1, #H2, #H3⟩, Hl⟩
  ihave Hcr := (creds_intro c) $$ Hcr
  ihave Hu := hu $$ Hu
  imodintro
  isplitl
  · isplitl [Hl]
    · iexists K, κs
      isplitr
      · isplitr; · iexact H1
        isplitr; · iexact H2
        isplitr; · iexact H3
        iexact Hlev
      iexact Hl
    isplitl [Hcr]; · iexact Hcr
    iexists _; iexact Hu
  · iempintro

/-- With the scratch buffers, what is held when the body begins. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [slot_whole, slot_whole, slot_whole]
  iintro ⟨Hs, -, Hr⟩
  isplitl [Hs] <;> iassumption

/-- What is held at the end gives back the counters and the scratch buffers. -/
theorem phi1_exit (c : Dev nD) :
    (dats m ρ 0 c).Φ (Fin.last cfg0.N) ⊢ iprop((unscopedSems0 c ∗ owns (c : Thread nD τ) resM fullShare (outFull (inp m) c)) ∗ Pipeline.ownSems0 osem c ∗ Pipeline.scopedRest cfg0.spec c) := by
  rw [show (dats m ρ 0 c).Φ (Fin.last cfg0.N) = Φ₁ m c from rfl, scopedRest0_eq]
  unfold Φ₁
  rw [sems0_eq, slot_whole, slot_whole, slot_whole]
  iintro ⟨⟨⟨Hu, Ho⟩, Hres⟩, Hr⟩
  isplitl [Hu Hres]
  · isplitl [Hu] <;> iassumption
  isplitl [Ho] <;> iassumption

/-- Everything owed lies above the windows' semaphores. -/
theorem above0 : Above 0 script := by decide

/-- The windows' waits are allowed. -/
theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    have hl : ∀ sm : SemLoc sig, kindOf sm = none → lv ((c : Thread nD τ), sm) 0 = 0 := fun sm h => by unfold lv; rw [h]
    have h0 : ∀ sm : SemLoc sig, kindOf sm = none → (levAts L lv : sProp 𝕄) ⊢ MayWait (c : Thread nD τ) sm 0 (due c script) := fun sm h =>
      mayWait_of c sm 0 (by decide) script (by rw [hl sm h]; exact above0)
    rcases t with ⟨_ | _, ht⟩
    · exact h0 _ (by fin_cases w <;> fin_cases s <;> decide)
    · show _ ⊢ MayWait _ _ _ 0
      rw [MayWait_zero]; iintro -; iempintro

/-! ### The run -/

/-- What an argument's array holds after the run. -/
def finalA (c : Dev nD) (w : Fin cfg0.W) : Buf (Elt F) ((cfg0.win w).arr.view.loc (c : Thread nD τ)) := (dats m ρ 0 c).arrAt w cfg0.N

/-- What every final state holds. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_v1) = outFull (inp m) c

/-- The result's contents and the counters, read off the final state. -/
theorem res_read (c : Dev nD) (s' : Phys nD τ sig (Elt F)) :
    iprop((unscopedSems0 c ∗ owns (c : Thread nD τ) resM fullShare (outFull (inp m) c)) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_v1) = outFull (inp m) c⌝ ∗ (SI s' : sProp 𝕄)) := by
  rw [owns_whole]
  iintro ⟨⟨Hu, Hres⟩, -, HSI⟩
  imod (Pipeline.unscopedSems0_read (X := unscopedSems0 c) (c := c) fupd_intro s') $$ [Hu HSI] with ⟨%hs, HSI⟩
  · isplitl [Hu] <;> iassumption
  icombine HSI Hres gives %h
  imodintro
  isplitr
  · ipureintro; exact ⟨hs, Buf.eq_of_forall_mem_univ h⟩
  iexact HSI

set_option maxRecDepth 8000 in
/-- From any memory with zero counters, for any float values: every weakly fair execution of the eight devices
    terminates, and every final state has each device's result at the computed contents, both arguments unchanged and
    every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => due c script) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ owns (c : Thread nD τ) resM fullShare (outFull (inp m) c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_v1) = outFull (inp m) c)
    (hY := fun c s' => res_read m c s')
    (hQ := fun _ h hs => ⟨fun c => ⟨fun w => (h c).1 w, (h c).2.2.2⟩, sem_eq_zero hs fun c => (h c).2.2.1⟩)

/-- The arguments after the run hold what they held. -/
theorem finalA_x (c : Dev nD) : finalA m ρ c (0 : Fin 2) = m ((c : Thread nD τ).loc main_arg0) :=
  (dats (F := F) m ρ 0 c).arrAt_in (0 : Fin 2) rfl _
/-- The same of the second argument. -/
theorem finalA_w (c : Dev nD) : finalA m ρ c (1 : Fin 2) = m ((c : Thread nD τ).loc main_arg1) :=
  (dats (F := F) m ρ 0 c).arrAt_in (1 : Fin 2) rfl _

/-- The run with the results' contents dropped. -/
theorem run_frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (0 : Fin 2)).trans (finalA_x m ρ c), ((h.1 c).1 (1 : Fin 2)).trans (finalA_w m ρ c)⟩, h.2⟩)
    (run_main m ρ)

end Cert.KernelIdealRing

end
-- ==== Proof.KernelIdealRing.Value.lean ====
/-
The value: over exact arithmetic, what a device's result holds is its block of columns of the reference's result.
-/
module

public import proofs.«01_k».proof.Proof.KernelIdealRing.Launch
public import proofs.«01_k».proof.Proof.Gen.ReferenceIdeal.Run
public import Idealize.ShloMosaic.Lib.Pointwise
public import Idealize.ShloMosaic.Lib.Layout

@[expose] public section

noncomputable section

namespace Cert.KernelIdealRing

open Idealize.ShloMosaic in
/-- The activation of one number, its cube multiplied out first. -/
def act (y : EReal) : EReal :=
  (Ideal.ofBits FTy.f32 0x3F000000#32 * y)
    * (1 + Ideal.tanh (Ideal.ofBits FTy.f32 0x3F4C422A#32 * (y + Ideal.ofBits FTy.f32 0x3D372713#32 * ((y * y) * y))))

section Reference

open Cert.ReferenceIdeal Cert.ReferenceIdeal.Gen Idealize.ShloMosaic Idealize.ShloMosaic.TcCoe Idealize.SL.Sem

/-- The reference's contraction, rounded and widened again. -/
def refDot (a : FVec Ideal S8192x8192 .bf16) (b : FVec Ideal S8192x4096 .bf16) : FVec Ideal S8192x4096 .f32 :=
  extf .f32 (truncf .bf16 (Host.dotGeneral dot_S8192x8192_S8192x4096_S8192x4096_1_0_0_1_n_n none a b) bitsLt_bf16_f32) bitsLt_bf16_f32

/-- The reference's result, a function of its two arguments. -/
def refOut (a : FVec Ideal S8192x8192 .bf16) (b : FVec Ideal S8192x4096 .bf16) : FVec Ideal S8192x4096 .f32 :=
  mulf (mulf (broadcastInDim S8192x4096 ![] bcast_S_S8192x4096 (constant S_ .f32 0x3F000000#32)) (refDot a b))
    (addf (broadcastInDim S8192x4096 ![] bcast_S_S8192x4096 (constant S_ .f32 0x3F800000#32))
      (Host.tanh (mulf (broadcastInDim S8192x4096 ![] bcast_S_S8192x4096 (constant S_ .f32 0x3F4C422A#32))
        (addf (refDot a b) (mulf (broadcastInDim S8192x4096 ![] bcast_S_S8192x4096 (constant S_ .f32 0x3D372713#32))
          (mulf (mulf (refDot a b) (refDot a b)) (refDot a b)))))))

/-- One element of the reference's result. -/
theorem refOut_at (a : FVec Ideal S8192x8192 .bf16) (b : FVec Ideal S8192x4096 .bf16) (r : Fin 8192) (l : Fin 4096) :
    refOut a b (ix2 r l) = act (∑ k : Fin 8192, a (ix2 r k) * b (ix2 k l)) := by
  pointwise [refOut, refDot]
  rfl

/-- The reference's run, its result by name. -/
theorem ref_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      r.2.mem ((c.tc : Thread nD τ).loc main_v15) = refOut (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  Cert.ReferenceIdeal.Value.run m' g'

end Reference

open Cert.KernelIdeal Cert.KernelIdeal.Gen
open Idealize.ShloMosaic
open Idealize.ShloMosaic.TcCoe
open Idealize.SL.Sem

/-- One element of a tile: the activation of the contraction. The tile multiplies the constant into the cube from the
    left, so the products are reassociated. -/
theorem tile_at (x : FVec Ideal S512x8192 .bf16) (w : FVec Ideal S8192x512 .bf16) (r : Fin 512) (l : Fin 512) :
    tile x w (ix2 r l) = act (∑ k : Fin 8192, x (ix2 r k) * w (ix2 k l)) := by
  pointwise [tile, gel]
  unfold act
  rw [mul_assoc (Ideal.ofBits FTy.f32 0x3D372713#32 * _), mul_assoc (Ideal.ofBits FTy.f32 0x3D372713#32), ← mul_assoc (∑ k : Fin 8192, _) (∑ k : Fin 8192, _) (∑ k : Fin 8192, _)]

variable (m : (ℓ : Loc nD τ sig) → Buf (Elt Ideal) ℓ)

/-- One element of a half of a device's rows. -/
theorem xhalf_at (o : Dev nD) (d : Bool) (r : Fin 512) (k : Fin 8192) :
    xhalf (inp m) o d (ix2 r k) = m ((o : Thread nD τ).loc main_arg0) (ix2 ⟨512 * d.toNat + r.val, by have := Bool.toNat_le d; omega⟩ k) := by
  refine congrArg (m ((o : Thread nD τ).loc main_arg0)) (funext fun a => Fin.ext ?_)
  fin_cases a
  · show 0 * 1024 + 1 * (512 * d.toNat + 1 * r.val) = 512 * d.toNat + r.val; omega
  · show 0 * 8192 + 1 * (0 + 1 * k.val) = k.val; omega

/-- One element of a device's columns. -/
theorem w_at (c : Dev nD) (k : Fin 8192) (l : Fin 512) : (inp m).w c (ix2 k l) = m ((c : Thread nD τ).loc main_arg1) (ix2 k l) := by
  refine congrArg (m ((c : Thread nD τ).loc main_arg1)) (funext fun a => Fin.ext ?_)
  fin_cases a
  · show 0 * 8192 + 1 * k.val = k.val; omega
  · show 0 * 512 + 1 * l.val = l.val; omega

/-- Device `c`'s result is its block of columns of the reference's, when every device holds its block of rows of the
    one array and its block of columns of the other. -/
theorem outFull_block (a : FVec Ideal ⟨2, ![8192, 8192]⟩ .bf16) (b : FVec Ideal ⟨2, ![8192, 4096]⟩ .bf16)
    (ha : ∀ c : Dev nD, m ((c : Thread nD τ).loc main_arg0) = Layout.block ⟨2, ![1024, 8192]⟩ ⟨2, ![8192, 8192]⟩ 0 8 c a)
    (hb : ∀ c : Dev nD, m ((c : Thread nD τ).loc main_arg1) = Layout.block ⟨2, ![8192, 512]⟩ ⟨2, ![8192, 4096]⟩ 1 8 c b) (c : Dev nD) :
    outFull (inp m) c = Layout.block ⟨2, ![8192, 512]⟩ ⟨2, ![8192, 4096]⟩ 1 8 c (refOut a b) := by
  funext i
  obtain ⟨r, l, rfl⟩ : ∃ (r : Fin 8192) (l : Fin 512), i = ix2 r l := ⟨i 0, i 1, eq_ix2 i⟩
  have hj : Layout.Tiles.idx (S := ⟨2, ![8192, 512]⟩) (T := ⟨2, ![8192, 4096]⟩) (a := 1) (k := 8) (by decide) c (ix2 r l)
      = ix2 r (⟨c.val * 512 + l.val, by have h : c.val < 8 := c.isLt; omega⟩ : Fin 4096) := by
    funext a; apply Fin.ext; fin_cases a <;> rfl
  rw [Layout.block_apply, hj, refOut_at]
  have hr : rowAt (ix2 r l) = ix2 (⟨r.val % 512, Nat.mod_lt _ (by decide)⟩ : Fin 512) l := by
    funext a; apply Fin.ext; fin_cases a <;> rfl
  unfold outFull outv
  have hh : rowHalf (ix2 r l) = (decide (512 ≤ r.val % 1024), (⟨r.val / 1024, by have := r.isLt; omega⟩ : Fin 8)) := rfl
  rw [hr, hh, tile_at]
  refine congrArg act (Finset.sum_congr rfl fun k _ => ?_)
  rw [xhalf_at, w_at, ha, hb, Layout.block_apply, Layout.block_apply]
  refine congrArg₂ (fun p q : EReal => p * q) (congrArg a ?_) (congrArg b ?_)
  · funext x; apply Fin.ext; fin_cases x
    · show (r.val / 1024) * 1024 + (512 * (decide (512 ≤ r.val % 1024)).toNat + r.val % 512) = r.val
      by_cases h : 512 ≤ r.val % 1024 <;> simp only [h, decide_true, decide_false, Bool.toNat_true, Bool.toNat_false] <;> omega
    · rfl
  · funext x; apply Fin.ext; fin_cases x <;> rfl

end Cert.KernelIdealRing

end
-- ==== Proof.lean ====
/-
The proof of `Cert.Claim`: the three runs, the kernel read exactly as printed, and its value over exact arithmetic.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRing.Launch
public import proofs.«01_k».proof.Proof.KernelIdealRing.Value
public import Idealize.ShloMosaic.Adequacy
public import Idealize.ShloMosaic.Init

@[expose] public section

noncomputable section

namespace Cert.Proof

open Idealize.ShloMosaic Idealize.SL.Sem

theorem quiescent_P : Cert.quiescent_Kernel := fun m ρ _ => Cert.KernelRing.run_frame (F := Bits) m ρ

theorem quiescent_PI : Cert.quiescent_KernelIdeal := fun m ρ _ => Cert.KernelIdealRing.run_frame (F := Ideal) m ρ

/-- The reference has no semaphore, so none can end away from zero. -/
theorem quiescent_RI : Cert.quiescent_ReferenceIdeal := fun m ρ _ =>
  (θ_run Cert.ReferenceIdeal.defs _ _).mono (fun r h => ⟨fun c => (h c).2, sem_eq_zero_of_no_sems (by decide) r.2⟩)
    (Cert.KernelIdealRing.ref_run m ρ)

/-- Over exact arithmetic each device ends with its block of columns of the reference's result. -/
theorem algebraic : Cert.algebraic_KernelIdeal_ReferenceIdeal := by
  intro m ρ m' ρ' _ hagree
  refine ⟨_, ?_, (θ_run Cert.ReferenceIdeal.defs _ _).mono (fun _ h => h 0) (Cert.KernelIdealRing.ref_run m' ρ')⟩
  exact (θ_run Cert.KernelIdeal.defs _ _).mono
    (fun _ h c => ⟨((h.1 c).2).trans (Cert.KernelIdealRing.outFull_block m _ _ (fun c => (hagree c).1) (fun c => (hagree c).2) c),
      ((h.1 c).1 (0 : Fin 2)).trans (Cert.KernelIdealRing.finalA_x m ρ c), ((h.1 c).1 (1 : Fin 2)).trans (Cert.KernelIdealRing.finalA_w m ρ c)⟩)
    (Cert.KernelIdealRing.run_main (F := Ideal) m ρ)

theorem claim : Cert.Claim :=
  ⟨Cert.Kernel.Gen.facts, Cert.KernelIdeal.Gen.facts, Cert.ReferenceIdeal.Gen.facts, quiescent_P, quiescent_PI, quiescent_RI, trivial, algebraic⟩

end Cert.Proof

end
